-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_finite_weight [hPre_finite_weight : Cert.Pre_finite_weight.Facts] (m : (ℓ : Loc Cert.QuantIdeal.nD Cert.QuantIdeal.τ Cert.QuantIdeal.sig) → Buf (Elt Ideal) ℓ) : Prop :=
  ∀ c : Dev Cert.QuantIdeal.nD,
    (Cert.Pre_finite_weight.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_finite_weight [hPre_finite_weight : Cert.Pre_finite_weight.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_finite_weight.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantIdeal_pre_finite_weight [hQuantIdeal : Cert.QuantIdeal.Facts] [hPre_finite_weight : Cert.Pre_finite_weight.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_finite_weight m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_QuantReferenceIdeal_pre_finite_weight [hQuantReferenceIdeal : Cert.QuantReferenceIdeal.Facts] [hPre_finite_weight : Cert.Pre_finite_weight.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_finite_weight m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v25_1) = v1 c
          ∧ r.2.mem ((c.tc : Thread Cert.ReferenceIdeal.nD Cert.ReferenceIdeal.τ).loc Cert.ReferenceIdeal.main_v25_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Quant_QuantIdeal : Prop :=
  True

def algebraic_QuantIdeal_QuantReferenceIdeal_pre_finite_weight [hQuantIdeal : Cert.QuantIdeal.Facts] [hQuantReferenceIdeal : Cert.QuantReferenceIdeal.Facts] [hPre_finite_weight : Cert.Pre_finite_weight.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_finite_weight m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v2_0)) (v1 : (c : Dev Cert.QuantIdeal.nD) → Buf (Elt Ideal) ((c.tc : Thread Cert.QuantIdeal.nD Cert.QuantIdeal.τ).loc Cert.QuantIdeal.main_v2_1)) (v2 : (c : Dev Cert.QuantIdeal.nD) → Buf (Elt Ideal) ((c.tc : Thread Cert.QuantIdeal.nD Cert.QuantIdeal.τ).loc Cert.QuantIdeal.main_v2_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v2_0) = v0 c
          ∧ r.2.mem ((c.tc : Thread Cert.QuantIdeal.nD Cert.QuantIdeal.τ).loc Cert.QuantIdeal.main_v2_1) = v1 c
          ∧ r.2.mem ((c.tc : Thread Cert.QuantIdeal.nD Cert.QuantIdeal.τ).loc Cert.QuantIdeal.main_v2_2) = v2 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v2_0) = v0 c
          ∧ r.2.mem ((c.tc : Thread Cert.QuantReferenceIdeal.nD Cert.QuantReferenceIdeal.τ).loc Cert.QuantReferenceIdeal.main_v2_1) = v1 c
          ∧ r.2.mem ((c.tc : Thread Cert.QuantReferenceIdeal.nD Cert.QuantReferenceIdeal.τ).loc Cert.QuantReferenceIdeal.main_v2_2) = v2 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hPre_finite_weight : Cert.Pre_finite_weight.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantIdeal_pre_finite_weight (hQuantIdeal := hQuantIdeal) (hPre_finite_weight := hPre_finite_weight)
    ∧ quiescent_QuantReferenceIdeal (hQuantReferenceIdeal := hQuantReferenceIdeal)
    ∧ quiescent_QuantReferenceIdeal_pre_finite_weight (hQuantReferenceIdeal := hQuantReferenceIdeal) (hPre_finite_weight := hPre_finite_weight)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantReferenceIdeal_pre_finite_weight (hQuantIdeal := hQuantIdeal) (hQuantReferenceIdeal := hQuantReferenceIdeal) (hPre_finite_weight := hPre_finite_weight)
-- ==== Pre_finite_weight.lean ====
abbrev S3x2048x16384 : Shape := ⟨3, ![3, 2048, 16384]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S3x2048x16384 .bf16) (main_arg1 : FVec F S16384 .f32) : IVec S16384 1 :=
  let main_v0 : FVec F S16384 .f32 := Host.absf main_arg1
  let main_cst : FVec F S_ .f32 := constant S_ .f32 0x7F7FFFFF#32
  let main_v1 : FVec F S16384 .f32 := broadcastInDim S16384 ![] bcast_S_S16384 main_cst
  let main_v2 : IVec S16384 1 := cmpf .ole main_v0 main_v1
  main_v2
-- ==== Kernel.lean ====
abbrev S6144x16384 : Shape := ⟨2, ![6144, 16384]⟩
abbrev S16384x17920 : Shape := ⟨2, ![16384, 17920]⟩
abbrev S128x140 : Shape := ⟨2, ![128, 140]⟩
abbrev S3 : Shape := ⟨1, ![3]⟩
abbrev S80 : Shape := ⟨1, ![80]⟩
abbrev S_ : Shape := ⟨0, ![]⟩
abbrev S3x1 : Shape := ⟨2, ![3, 1]⟩
abbrev S2048 : Shape := ⟨1, ![2048]⟩
abbrev S1x2048 : Shape := ⟨2, ![1, 2048]⟩
abbrev S3x2048 : Shape := ⟨2, ![3, 2048]⟩
abbrev S3x2048x1 : Shape := ⟨3, ![3, 2048, 1]⟩
abbrev S1x1x80 : Shape := ⟨3, ![1, 1, 80]⟩
abbrev S3x2048x80 : Shape := ⟨3, ![3, 2048, 80]⟩
abbrev S6144x80 : Shape := ⟨2, ![6144, 80]⟩
abbrev S6144x160 : Shape := ⟨2, ![6144, 160]⟩
abbrev S1x6144x1x160 : Shape := ⟨4, ![1, 6144, 1, 160]⟩
abbrev S1x6144x4x160 : Shape := ⟨4, ![1, 6144, 4, 160]⟩
abbrev S6144x640 : Shape := ⟨2, ![6144, 640]⟩
abbrev S128x140x128 : Shape := ⟨3, ![128, 140, 128]⟩
abbrev S128x17920 : Shape := ⟨2, ![128, 17920]⟩
abbrev S6144x15360 : Shape := ⟨2, ![6144, 15360]⟩
abbrev S6144x1280 : Shape := ⟨2, ![6144, 1280]⟩
abbrev S1024x2048 : Shape := ⟨2, ![1024, 2048]⟩
abbrev S2048x1280 : Shape := ⟨2, ![2048, 1280]⟩
abbrev S16x1280 : Shape := ⟨2, ![16, 1280]⟩
abbrev S1024x640 : Shape := ⟨2, ![1024, 640]⟩
abbrev S1024x1280 : Shape := ⟨2, ![1024, 1280]⟩
abbrev S128x1280 : Shape := ⟨2, ![128, 1280]⟩
abbrev S1x1280 : Shape := ⟨2, ![1, 1280]⟩
abbrev S128x640 : Shape := ⟨2, ![128, 640]⟩

abbrev nBuf : Space → Nat
  | .hbm => 50
  | .vmem => 17
  | .smem => 0
  | _ => 0

abbrev bufTy : (tb : Table) → Fin (tcTables nBuf tb) → BufTy
  | .hbm, ⟨0, _⟩ => ⟨S6144x16384, .bf16⟩
  | .hbm, ⟨1, _⟩ => ⟨S16384x17920, .fp8e4m3⟩
  | .hbm, ⟨2, _⟩ => ⟨S128x140, .f32⟩
  | .hbm, ⟨3, _⟩ => ⟨S3, .i32⟩
  | .hbm, ⟨4, _⟩ => ⟨S80, .f32⟩
  | .hbm, ⟨5, _⟩ => ⟨S_, .f32⟩
  | .hbm, ⟨6, _⟩ => ⟨S80, .f32⟩
  | .hbm, ⟨7, _⟩ => ⟨S80, .f32⟩
  | .hbm, ⟨8, _⟩ => ⟨S_, .f32⟩
  | .hbm, ⟨9, _⟩ => ⟨S80, .f32⟩
  | .hbm, ⟨10, _⟩ => ⟨S80, .f32⟩
  | .hbm, ⟨11, _⟩ => ⟨S_, .f32⟩
  | .hbm, ⟨12, _⟩ => ⟨S80, .f32⟩
  | .hbm, ⟨13, _⟩ => ⟨S80, .f32⟩
  | .hbm, ⟨14, _⟩ => ⟨S_, .f32⟩
  | .hbm, ⟨15, _⟩ => ⟨S80, .f32⟩
  | .hbm, ⟨16, _⟩ => ⟨S80, .f32⟩
  | .hbm, ⟨17, _⟩ => ⟨S_, .f32⟩
  | .hbm, ⟨18, _⟩ => ⟨S80, .f32⟩
  | .hbm, ⟨19, _⟩ => ⟨S80, .f32⟩
  | .hbm, ⟨20, _⟩ => ⟨S3x1, .i32⟩
  | .hbm, ⟨21, _⟩ => ⟨S2048, .i32⟩
  | .hbm, ⟨22, _⟩ => ⟨S1x2048, .i32⟩
  | .hbm, ⟨23, _⟩ => ⟨S3x2048, .i32⟩
  | .hbm, ⟨24, _⟩ => ⟨S3x2048, .i32⟩
  | .hbm, ⟨25, _⟩ => ⟨S3x2048, .i32⟩
  | .hbm, ⟨26, _⟩ => ⟨S3x2048, .f32⟩
  | .hbm, ⟨27, _⟩ => ⟨S3x2048x1, .f32⟩
  | .hbm, ⟨28, _⟩ => ⟨S1x1x80, .f32⟩
  | .hbm, ⟨29, _⟩ => ⟨S3x2048x80, .f32⟩
  | .hbm, ⟨30, _⟩ => ⟨S3x2048x80, .f32⟩
  | .hbm, ⟨31, _⟩ => ⟨S3x2048x80, .f32⟩
  | .hbm, ⟨32, _⟩ => ⟨S6144x80, .f32⟩
  | .hbm, ⟨33, _⟩ => ⟨S6144x80, .f32⟩
  | .hbm, ⟨34, _⟩ => ⟨S6144x80, .f32⟩
  | .hbm, ⟨35, _⟩ => ⟨S6144x160, .f32⟩
  | .hbm, ⟨36, _⟩ => ⟨S1x6144x1x160, .f32⟩
  | .hbm, ⟨37, _⟩ => ⟨S1x6144x4x160, .f32⟩
  | .hbm, ⟨38, _⟩ => ⟨S6144x640, .f32⟩
  | .hbm, ⟨39, _⟩ => ⟨S6144x80, .f32⟩
  | .hbm, ⟨40, _⟩ => ⟨S6144x160, .f32⟩
  | .hbm, ⟨41, _⟩ => ⟨S1x6144x1x160, .f32⟩
  | .hbm, ⟨42, _⟩ => ⟨S1x6144x4x160, .f32⟩
  | .hbm, ⟨43, _⟩ => ⟨S6144x640, .f32⟩
  | .hbm, ⟨44, _⟩ => ⟨S128x140x128, .f32⟩
  | .hbm, ⟨45, _⟩ => ⟨S128x17920, .f32⟩
  | .hbm, ⟨46, _⟩ => ⟨S128x17920, .bf16⟩
  | .hbm, ⟨47, _⟩ => ⟨S6144x15360, .bf16⟩
  | .hbm, ⟨48, _⟩ => ⟨S6144x1280, .bf16⟩
  | .hbm, ⟨49, _⟩ => ⟨S6144x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .fp8e4m3⟩
  | .local _ .vmem, ⟨3, _⟩ => ⟨S2048x1280, .fp8e4m3⟩
  | .local _ .vmem, ⟨4, _⟩ => ⟨S16x1280, .bf16⟩
  | .local _ .vmem, ⟨5, _⟩ => ⟨S16x1280, .bf16⟩
  | .local _ .vmem, ⟨6, _⟩ => ⟨S1024x640, .f32⟩
  | .local _ .vmem, ⟨7, _⟩ => ⟨S1024x640, .f32⟩
  | .local _ .vmem, ⟨8, _⟩ => ⟨S1024x640, .f32⟩
  | .local _ .vmem, ⟨9, _⟩ => ⟨S1024x640, .f32⟩
  | .local _ .vmem, ⟨10, _⟩ => ⟨S1024x1280, .bf16⟩
  | .local _ .vmem, ⟨11, _⟩ => ⟨S1024x1280, .bf16⟩
  | .local _ .vmem, ⟨12, _⟩ => ⟨S1024x1280, .bf16⟩
  | .local _ .vmem, ⟨13, _⟩ => ⟨S1024x1280, .bf16⟩
  | .local _ .vmem, ⟨14, _⟩ => ⟨S1024x1280, .bf16⟩
  | .local _ .vmem, ⟨15, _⟩ => ⟨S1024x1280, .bf16⟩
  | .local _ .vmem, ⟨16, _⟩ => ⟨S1024x1280, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![6, 14, 8], ![false, false, false]⟩

def k0_cond2 (i : grid0.Coords) : BitVec 1 :=
  let arg2 : BitVec 32 := BitVec.ofNat 32 (i 2).val
  let c7_i32 : BitVec 32 := 7#32
  let v107 : BitVec 1 := Scalar.cmpi .eq arg2 c7_i32
  let arg1 : BitVec 32 := BitVec.ofNat 32 (i 1).val
  let c12_i32 : BitVec 32 := 12#32
  let v108 : BitVec 1 := Scalar.cmpi .slt arg1 c12_i32
  let v109 : BitVec 1 := Scalar.andi v107 v108
  let v110 : BitVec 32 := Scalar.extui v109
  let c0_i32_40 : BitVec 32 := 0#32
  let v111 : BitVec 1 := Scalar.cmpi .ne v110 c0_i32_40
  v111

def k0_cond3 (i : grid0.Coords) : BitVec 1 :=
  let arg2 : BitVec 32 := BitVec.ofNat 32 (i 2).val
  let c7_i32 : BitVec 32 := 7#32
  let v107 : BitVec 1 := Scalar.cmpi .eq arg2 c7_i32
  let arg1 : BitVec 32 := BitVec.ofNat 32 (i 1).val
  let c12_i32_41 : BitVec 32 := 12#32
  let v112 : BitVec 1 := Scalar.cmpi .eq arg1 c12_i32_41
  let v113 : BitVec 1 := Scalar.andi v107 v112
  let v114 : BitVec 32 := Scalar.extui v113
  let c0_i32_42 : BitVec 32 := 0#32
  let v115 : BitVec 1 := Scalar.cmpi .ne v114 c0_i32_42
  v115

def k0_cond4 (i : grid0.Coords) : BitVec 1 :=
  let arg2 : BitVec 32 := BitVec.ofNat 32 (i 2).val
  let c7_i32 : BitVec 32 := 7#32
  let v107 : BitVec 1 := Scalar.cmpi .eq arg2 c7_i32
  let arg1 : BitVec 32 := BitVec.ofNat 32 (i 1).val
  let c13_i32 : BitVec 32 := 13#32
  let v116 : BitVec 1 := Scalar.cmpi .eq arg1 c13_i32
  let v117 : BitVec 1 := Scalar.andi v107 v116
  let v118 : BitVec 32 := Scalar.extui v117
  let c0_i32_43 : BitVec 32 := 0#32
  let v119 : BitVec 1 := Scalar.cmpi .ne v118 c0_i32_43
  v119

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.minsi arg1 c11_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S6144x16384 : Shape := ⟨2, ![6144, 16384]⟩
abbrev S16384x17920 : Shape := ⟨2, ![16384, 17920]⟩
abbrev S128x140 : Shape := ⟨2, ![128, 140]⟩
abbrev S3 : Shape := ⟨1, ![3]⟩
abbrev S80 : Shape := ⟨1, ![80]⟩
abbrev S_ : Shape := ⟨0, ![]⟩
abbrev S3x1 : Shape := ⟨2, ![3, 1]⟩
abbrev S2048 : Shape := ⟨1, ![2048]⟩
abbrev S1x2048 : Shape := ⟨2, ![1, 2048]⟩
abbrev S3x2048 : Shape := ⟨2, ![3, 2048]⟩
abbrev S3x2048x1 : Shape := ⟨3, ![3, 2048, 1]⟩
abbrev S1x1x80 : Shape := ⟨3, ![1, 1, 80]⟩
abbrev S3x2048x80 : Shape := ⟨3, ![3, 2048, 80]⟩
abbrev S6144x15360 : Shape := ⟨2, ![6144, 15360]⟩
abbrev S6144x1280 : Shape := ⟨2, ![6144, 1280]⟩
abbrev S128x128x140x128 : Shape := ⟨4, ![128, 128, 140, 128]⟩
abbrev S128x1x140x1 : Shape := ⟨4, ![128, 1, 140, 1]⟩
abbrev S6144x17920 : Shape := ⟨2, ![6144, 17920]⟩
abbrev S3x2048x96x160 : Shape := ⟨4, ![3, 2048, 96, 160]⟩
abbrev S3x2048x8x160 : Shape := ⟨4, ![3, 2048, 8, 160]⟩
abbrev S3x2048x1x80 : Shape := ⟨4, ![3, 2048, 1, 80]⟩
abbrev S3x2048x96x80 : Shape := ⟨4, ![3, 2048, 96, 80]⟩
abbrev S3x2048x8x80 : Shape := ⟨4, ![3, 2048, 8, 80]⟩

abbrev nBuf : Space → Nat
  | .hbm => 37
  | .vmem => 8
  | .smem => 0
  | _ => 0

abbrev bufTy : (tb : Table) → Fin (tcTables nBuf tb) → BufTy
  | .hbm, ⟨0, _⟩ => ⟨S6144x16384, .bf16⟩
  | .hbm, ⟨1, _⟩ => ⟨S16384x17920, .fp8e4m3⟩
  | .hbm, ⟨2, _⟩ => ⟨S128x140, .f32⟩
  | .hbm, ⟨3, _⟩ => ⟨S3, .i32⟩
  | .hbm, ⟨4, _⟩ => ⟨S80, .f32⟩
  | .hbm, ⟨5, _⟩ => ⟨S_, .f32⟩
  | .hbm, ⟨6, _⟩ => ⟨S80, .f32⟩
  | .hbm, ⟨7, _⟩ => ⟨S80, .f32⟩
  | .hbm, ⟨8, _⟩ => ⟨S_, .f32⟩
  | .hbm, ⟨9, _⟩ => ⟨S80, .f32⟩
  | .hbm, ⟨10, _⟩ => ⟨S80, .f32⟩
  | .hbm, ⟨11, _⟩ => ⟨S_, .f32⟩
  | .hbm, ⟨12, _⟩ => ⟨S80, .f32⟩
  | .hbm, ⟨13, _⟩ => ⟨S80, .f32⟩
  | .hbm, ⟨14, _⟩ => ⟨S_, .f32⟩
  | .hbm, ⟨15, _⟩ => ⟨S80, .f32⟩
  | .hbm, ⟨16, _⟩ => ⟨S80, .f32⟩
  | .hbm, ⟨17, _⟩ => ⟨S_, .f32⟩
  | .hbm, ⟨18, _⟩ => ⟨S80, .f32⟩
  | .hbm, ⟨19, _⟩ => ⟨S80, .f32⟩
  | .hbm, ⟨20, _⟩ => ⟨S3x1, .i32⟩
  | .hbm, ⟨21, _⟩ => ⟨S2048, .i32⟩
  | .hbm, ⟨22, _⟩ => ⟨S1x2048, .i32⟩
  | .hbm, ⟨23, _⟩ => ⟨S3x2048, .i32⟩
  | .hbm, ⟨24, _⟩ => ⟨S3x2048, .i32⟩
  | .hbm, ⟨25, _⟩ => ⟨S3x2048, .i32⟩
  | .hbm, ⟨26, _⟩ => ⟨S3x2048, .f32⟩
  | .hbm, ⟨27, _⟩ => ⟨S3x2048x1, .f32⟩
  | .hbm, ⟨28, _⟩ => ⟨S1x1x80, .f32⟩
  | .hbm, ⟨29, _⟩ => ⟨S3x2048x80, .f32⟩
  | .hbm, ⟨30, _⟩ => ⟨S3x2048x80, .f32⟩
  | .hbm, ⟨31, _⟩ => ⟨S3x2048x80, .f32⟩
  | .hbm, ⟨32, _⟩ => ⟨S3x2048x80, .f32⟩
  | .hbm, ⟨33, _⟩ => ⟨S3x2048x80, .f32⟩
  | .hbm, ⟨34, _⟩ => ⟨S6144x15360, .bf16⟩
  | .hbm, ⟨35, _⟩ => ⟨S6144x1280, .bf16⟩
  | .hbm, ⟨36, _⟩ => ⟨S6144x1280, .bf16⟩
  | .local _ .vmem, ⟨0, _⟩ => ⟨S6144x16384, .bf16⟩
  | .local _ .vmem, ⟨1, _⟩ => ⟨S16384x17920, .fp8e4m3⟩
  | .local _ .vmem, ⟨2, _⟩ => ⟨S128x140, .f32⟩
  | .local _ .vmem, ⟨3, _⟩ => ⟨S3x2048x80, .f32⟩
  | .local _ .vmem, ⟨4, _⟩ => ⟨S3x2048x80, .f32⟩
  | .local _ .vmem, ⟨5, _⟩ => ⟨S6144x15360, .bf16⟩
  | .local _ .vmem, ⟨6, _⟩ => ⟨S6144x1280, .bf16⟩
  | .local _ .vmem, ⟨7, _⟩ => ⟨S6144x1280, .bf16⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x17920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x140 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2048x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x15360 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S3x2048x16384 : Shape := ⟨3, ![3, 2048, 16384]⟩
abbrev S16384 : Shape := ⟨1, ![16384]⟩
abbrev S6144x16384 : Shape := ⟨2, ![6144, 16384]⟩
abbrev S1x16384 : Shape := ⟨2, ![1, 16384]⟩
abbrev S6144x128 : Shape := ⟨2, ![6144, 128]⟩
abbrev S64x16384 : Shape := ⟨2, ![64, 16384]⟩
abbrev S64x128 : Shape := ⟨2, ![64, 128]⟩
abbrev S64 : Shape := ⟨1, ![64]⟩
abbrev S64x1 : Shape := ⟨2, ![64, 1]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S3x2048x16384, .bf16⟩
  | .hbm, ⟨1, _⟩ => ⟨S16384, .f32⟩
  | .hbm, ⟨2, _⟩ => ⟨S6144x16384, .bf16⟩
  | .hbm, ⟨3, _⟩ => ⟨S1x16384, .f32⟩
  | .hbm, ⟨4, _⟩ => ⟨S6144x16384, .fp8e4m3⟩
  | .hbm, ⟨5, _⟩ => ⟨S6144x128, .f32⟩
  | .hbm, ⟨6, _⟩ => ⟨S6144x16384, .bf16⟩
  | .local _ .vmem, ⟨0, _⟩ => ⟨S64x16384, .bf16⟩
  | .local _ .vmem, ⟨1, _⟩ => ⟨S64x16384, .bf16⟩
  | .local _ .vmem, ⟨2, _⟩ => ⟨S1x16384, .f32⟩
  | .local _ .vmem, ⟨3, _⟩ => ⟨S64x16384, .fp8e4m3⟩
  | .local _ .vmem, ⟨4, _⟩ => ⟨S64x16384, .fp8e4m3⟩
  | .local _ .vmem, ⟨5, _⟩ => ⟨S64x128, .f32⟩
  | .local _ .vmem, ⟨6, _⟩ => ⟨S64x128, .f32⟩
  | .local _ .vmem, ⟨7, _⟩ => ⟨S64x16384, .bf16⟩
  | .local _ .vmem, ⟨8, _⟩ => ⟨S64x16384, .bf16⟩
  | _, _ => ⟨S3x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantReferenceIdeal.lean ====
abbrev S3x2048x16384 : Shape := ⟨3, ![3, 2048, 16384]⟩
abbrev S16384 : Shape := ⟨1, ![16384]⟩
abbrev S6144x16384 : Shape := ⟨2, ![6144, 16384]⟩
abbrev S1x16384 : Shape := ⟨2, ![1, 16384]⟩
abbrev S6144x128 : Shape := ⟨2, ![6144, 128]⟩
abbrev S6144 : Shape := ⟨1, ![6144]⟩
abbrev S6144x1 : Shape := ⟨2, ![6144, 1]⟩
abbrev S6144x128x128 : Shape := ⟨3, ![6144, 128, 128]⟩
abbrev S1x1x253 : Shape := ⟨3, ![1, 1, 253]⟩
abbrev S6144x128x1 : Shape := ⟨3, ![6144, 128, 1]⟩
abbrev S6144x128x253 : Shape := ⟨3, ![6144, 128, 253]⟩

abbrev nBuf : Space → Nat
  | .hbm => 7
  | .vmem => 5
  | .smem => 0
  | _ => 0

abbrev bufTy : (tb : Table) → Fin (tcTables nBuf tb) → BufTy
  | .hbm, ⟨0, _⟩ => ⟨S3x2048x16384, .bf16⟩
  | .hbm, ⟨1, _⟩ => ⟨S16384, .f32⟩
  | .hbm, ⟨2, _⟩ => ⟨S6144x16384, .bf16⟩
  | .hbm, ⟨3, _⟩ => ⟨S1x16384, .f32⟩
  | .hbm, ⟨4, _⟩ => ⟨S6144x16384, .fp8e4m3⟩
  | .hbm, ⟨5, _⟩ => ⟨S6144x128, .f32⟩
  | .hbm, ⟨6, _⟩ => ⟨S6144x16384, .bf16⟩
  | .local _ .vmem, ⟨0, _⟩ => ⟨S6144x16384, .bf16⟩
  | .local _ .vmem, ⟨1, _⟩ => ⟨S1x16384, .f32⟩
  | .local _ .vmem, ⟨2, _⟩ => ⟨S6144x16384, .fp8e4m3⟩
  | .local _ .vmem, ⟨3, _⟩ => ⟨S6144x128, .f32⟩
  | .local _ .vmem, ⟨4, _⟩ => ⟨S6144x16384, .bf16⟩
  | _, _ => ⟨S3x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  What both programs compute, as plain sums and products over the extended reals: the projection of the activations
  by the scaled weights, and the rotation of each head by its position's angles.
-/
module

public import proofs.«01_k».proof.KernelIdeal
public import Idealize.ShloMosaic.Lib.Pointwise

@[expose] public section

set_option maxRecDepth 16384

noncomputable section

namespace Cert.KernelIdeal.Body

open Idealize.ShloMosaic

/-- The projection: row `r` of the activations against column `n` of the weights, each weight scaled by its 128×128
    group's scale. -/
def proj (X : Vec Ideal S6144x16384 .bf16) (W : Vec Ideal S16384x17920 .fp8e4m3) (S : Vec Ideal S128x140 .f32)
    (r : Fin 6144) (n : Fin 17920) : EReal :=
  ∑ k : Fin 16384, X (ix2 r k) * (W (ix2 k n) * S (ix2 ⟨k.val / 128, by omega⟩ ⟨n.val / 128, by omega⟩))

/-- The angle of row `r` (batch `r / 2048`, position `r % 2048`) for the column `n`. -/
def ang (A : Vec Ideal S3x2048x80 .f32) (r : Fin 6144) (n : Fin 17920) : EReal :=
  A (ix3 ⟨r.val / 2048, by omega⟩ ⟨r.val % 2048, by omega⟩ ⟨n.val % 80, by omega⟩)

/-- The rotation of a row of projected values at the column `n`: in each head of 160 columns the first half takes
    `y cos - y' sin` and the second `y cos + y' sin`, `y'` the other half's value. -/
def rot (y : Fin 17920 → EReal) (co si : EReal) (n : Fin 17920) : EReal :=
  if h : n.val % 160 < 80 then y n * co - y ⟨n.val + 80, by omega⟩ * si
  else y n * co + y ⟨n.val - 80, by omega⟩ * si

/-- The rotated projection. -/
def rotProj (X : Vec Ideal S6144x16384 .bf16) (W : Vec Ideal S16384x17920 .fp8e4m3) (S : Vec Ideal S128x140 .f32)
    (A : Vec Ideal S3x2048x80 .f32) (r : Fin 6144) (n : Fin 17920) : EReal :=
  rot (proj X W S r) (Ideal.cos (ang A r n)) (Ideal.sin (ang A r n)) n

end Cert.KernelIdeal.Body

end
-- ==== Proof.RefBody.lean ====
/-
  What the reference's body computes, read at an index.
-/
module

public import proofs.«01_k».proof.Proof.Gen.ReferenceIdeal.Value
public import proofs.«01_k».proof.Proof.Spec

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

open Cert.KernelIdeal.Body (proj ang rot rotProj)

/-- The projection. -/
theorem proj_apply (W : Vec Ideal S16384x17920 .fp8e4m3) (S : Vec Ideal S128x140 .f32) (X : Vec Ideal S6144x16384 .bf16) (r : Fin 6144) (n : Fin 17920) :
    (k0_pay3 W S X (ix2 r n) : EReal) = proj X W S r n := by
  pointwise [k0_pay3]
  rfl

attribute [local irreducible] k0_pay3

/-- The rotation in the first half of a head. -/
theorem rot_lo (y : Fin 17920 → EReal) (co si : EReal) (n : ℕ) (hn : n < 17920) (h : n % 160 < 80) :
    rot y co si ⟨n, hn⟩ = y ⟨n, hn⟩ * co - y ⟨n + 80, by omega⟩ * si := dif_pos h

/-- The rotation in the second half of a head. -/
theorem rot_hi (y : Fin 17920 → EReal) (co si : EReal) (n : ℕ) (hn : n < 17920) (h : ¬ n % 160 < 80) :
    rot y co si ⟨n, hn⟩ = y ⟨n, hn⟩ * co + y ⟨n - 80, by omega⟩ * si := dif_neg h

set_option maxHeartbeats 1000000 in
/-- The queries. -/
theorem q_apply (W : Vec Ideal S16384x17920 .fp8e4m3) (S : Vec Ideal S128x140 .f32) (X : Vec Ideal S6144x16384 .bf16)
    (co si : Vec Ideal S3x2048x80 .f32) (r : Fin 6144) (n : Fin 15360) :
    (k0_pay8 W S X co si (ix2 r n) : EReal) = rot (fun n => k0_pay3 W S X (ix2 r n)) (co (ix3 ⟨r.val / 2048, by omega⟩ ⟨r.val % 2048, by omega⟩ ⟨n.val % 80, by omega⟩))
      (si (ix3 ⟨r.val / 2048, by omega⟩ ⟨r.val % 2048, by omega⟩ ⟨n.val % 80, by omega⟩)) ⟨n.val, by omega⟩ := by
  pointwise [k0_pay8, k0_pay6, k0_pay7]
  by_cases h : n.val % 160 < 80
  · rw [dif_pos h, rot_lo _ _ _ n.val (by omega) h]
    have e : (⟨n.val % 160, by omega⟩ : Fin 80) = ⟨n.val % 80, by omega⟩ := Fin.ext (by simp only []; omega)
    have e1 : (⟨n.val / 160 * 160 + (80 + n.val % 160), by omega⟩ : Fin 17920) = ⟨n.val + 80, by omega⟩ := Fin.ext (by simp only []; omega)
    simp only [e, e1]
  · rw [dif_neg h, rot_hi _ _ _ n.val (by omega) h]
    have e : (⟨n.val % 160 - 80, by omega⟩ : Fin 80) = ⟨n.val % 80, by omega⟩ := Fin.ext (by simp only []; omega)
    have e1 : (⟨n.val / 160 * 160 + (80 + (n.val % 160 - 80)), by omega⟩ : Fin 17920) = ⟨n.val, by omega⟩ := Fin.ext (by simp only []; omega)
    have e2 : (⟨n.val / 160 * 160 + (n.val % 160 - 80), by omega⟩ : Fin 17920) = ⟨n.val - 80, by omega⟩ := Fin.ext (by simp only []; omega)
    simp only [e, e1, e2]

set_option maxHeartbeats 1000000 in
/-- The keys. -/
theorem k_apply (W : Vec Ideal S16384x17920 .fp8e4m3) (S : Vec Ideal S128x140 .f32) (X : Vec Ideal S6144x16384 .bf16)
    (co si : Vec Ideal S3x2048x80 .f32) (r : Fin 6144) (n : Fin 1280) :
    (k0_pay1 (k0_pay6 co) (k0_pay7 si) (k0_pay9 W S X) (k0_pay10 W S X) (k0_pay11 W S X co) (k0_pay12 W S X si) (ix2 r n) : EReal) = rot (fun n => k0_pay3 W S X (ix2 r n)) (co (ix3 ⟨r.val / 2048, by omega⟩ ⟨r.val % 2048, by omega⟩ ⟨n.val % 80, by omega⟩))
      (si (ix3 ⟨r.val / 2048, by omega⟩ ⟨r.val % 2048, by omega⟩ ⟨n.val % 80, by omega⟩)) ⟨15360 + n.val, by omega⟩ := by
  pointwise [k0_pay1, k0_pay4, k0_pay6, k0_pay7, k0_pay9, k0_pay10, k0_pay11, k0_pay12]
  by_cases h : n.val % 160 < 80
  · rw [dif_pos h, rot_lo _ _ _ (15360 + n.val) (by omega) (by omega)]
    have e : (⟨n.val % 160, by omega⟩ : Fin 80) = ⟨n.val % 80, by omega⟩ := Fin.ext (by simp only []; omega)
    have e1 : (⟨15360 + (n.val / 160 * 160 + (80 + n.val % 160)), by omega⟩ : Fin 17920) = ⟨15360 + n.val + 80, by omega⟩ := Fin.ext (by simp only []; omega)
    simp only [e, e1]
  · rw [dif_neg h, rot_hi _ _ _ (15360 + n.val) (by omega) (by omega)]
    have e : (⟨n.val % 160 - 80, by omega⟩ : Fin 80) = ⟨n.val % 80, by omega⟩ := Fin.ext (by simp only []; omega)
    have e1 : (⟨15360 + (n.val / 160 * 160 + (80 + (n.val % 160 - 80))), by omega⟩ : Fin 17920) = ⟨15360 + n.val, by omega⟩ := Fin.ext (by simp only []; omega)
    have e2 : (⟨15360 + (n.val / 160 * 160 + (n.val % 160 - 80)), by omega⟩ : Fin 17920) = ⟨15360 + n.val - 80, by omega⟩ := Fin.ext (by simp only []; omega)
    simp only [e, e1, e2]

/-- The values. -/
theorem v_apply (W : Vec Ideal S16384x17920 .fp8e4m3) (S : Vec Ideal S128x140 .f32) (X : Vec Ideal S6144x16384 .bf16) (r : Fin 6144) (n : Fin 1280) :
    (k0_pay2 (k0_pay5 W S X) (ix2 r n) : EReal) = k0_pay3 W S X (ix2 r ⟨16640 + n.val, by omega⟩) := by
  pointwise [k0_pay2, k0_pay5]

end Cert.ReferenceIdeal.Body

end
-- ==== Proof.Runs.lean ====
/-
  What the five runs of the projection kernel's body share: the body's four branch conditions in closed form over
  the grid points, where the windows are idle, and the names of the staging and scratch memrefs.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have i1 + 73 ≤ 12·i2 — decided over the grid. -/
theorem hcond0_1 : ∀ t : Fin cfg0.N, cond0_1 (grid0.coords t) ↔ t.val / 8 % 14 + 73 ≤ 12 * (t.val % 8) :=
  (by decide +kernel : ∀ t : Fin grid0.N, cond0_1 (grid0.coords t) ↔ t.val / 8 % 14 + 73 ≤ 12 * (t.val % 8))

/-- The condition of the body's `scf.if` 2 (`k0_h3`), from the grid coordinates (the skeleton's scalar
    chain substituted). -/
abbrev cond0_2 (i : grid0.Coords) : Prop := k0_cond3 i = 1#1
/-- It holds at the points ≡ 103 (mod 112) — by arithmetic of the point. -/
theorem hcond0_2 : ∀ t : Fin cfg0.N, cond0_2 (grid0.coords t) ↔ t.val % 112 = 103 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_2, k0_cond3, e0, e1, e2]
    word_cmp
   : ∀ t : Fin grid0.N, cond0_2 (grid0.coords t) ↔ t.val % 112 = 103)

/-- The condition of the body's `scf.if` 3 (`k0_h4`), from the grid coordinates (the skeleton's scalar
    chain substituted). -/
abbrev cond0_3 (i : grid0.Coords) : Prop := k0_cond4 i = 1#1
/-- It holds at the points ≡ 111 (mod 112) — by arithmetic of the point. -/
theorem hcond0_3 : ∀ t : Fin cfg0.N, cond0_3 (grid0.coords t) ↔ t.val % 112 = 111 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_3, k0_cond4, e0, e1, e2]
    word_cmp
   : ∀ t : Fin grid0.N, cond0_3 (grid0.coords t) ↔ t.val % 112 = 111)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1280 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1280 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1280 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1280 .f32 := Memref.whole cc0_scratch0
/-- The scratch `arg11` the kernel carries between points, as a view: what it holds is stated through it. -/
abbrev VS0_0 : View sig .tc .vmem S1024x1280 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Blocks.lean ====
/-
  The blocks one grid point computes, as functions of the blocks it reads: the partial sum after one reduction step, the
  pieces the rotated query and key blocks are stored in, and the pieces the value block is stored in.
-/
module

public import proofs.«01_k».proof.Proof.Runs
public import Idealize.ShloMosaic.Lib.Pipeline.ValueKit.Tiles

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The partial sum after one more reduction step: the activation block `x0` times the weight block `x1`, each group of
    128 weight rows scaled by its row of `x2`, added to the partial sum `xs`. -/
def accStep (x0 : Vec F S1024x2048 .bf16) (x1 : Vec F S2048x1280 .fp8e4m3) (x2 : Vec F S16x1280 .bf16) (xs : Vec F S1024x1280 .f32) :
    Vec F S1024x1280 .f32 :=
  k0_pay1 (k0_pay66
    (k0_pay55 (View.ld x1 (Rect.unit ![0, 0] S128x1280.size inb_S2048x1280_S128x1280_0_0)) (View.ld x2 (Rect.unit ![0, 0] S1x1280.size inb_S16x1280_S1x1280_0_0)))
    (k0_pay56 (View.ld x1 (Rect.unit ![128, 0] S128x1280.size inb_S2048x1280_S128x1280_128_0)) (View.ld x2 (Rect.unit ![1, 0] S1x1280.size inb_S16x1280_S1x1280_1_0)))
    (k0_pay57 (View.ld x1 (Rect.unit ![256, 0] S128x1280.size inb_S2048x1280_S128x1280_256_0)) (View.ld x2 (Rect.unit ![2, 0] S1x1280.size inb_S16x1280_S1x1280_2_0)))
    (k0_pay58 (View.ld x1 (Rect.unit ![384, 0] S128x1280.size inb_S2048x1280_S128x1280_384_0)) (View.ld x2 (Rect.unit ![3, 0] S1x1280.size inb_S16x1280_S1x1280_3_0)))
    (k0_pay59 (View.ld x1 (Rect.unit ![512, 0] S128x1280.size inb_S2048x1280_S128x1280_512_0)) (View.ld x2 (Rect.unit ![4, 0] S1x1280.size inb_S16x1280_S1x1280_4_0)))
    (k0_pay60 (View.ld x1 (Rect.unit ![640, 0] S128x1280.size inb_S2048x1280_S128x1280_640_0)) (View.ld x2 (Rect.unit ![5, 0] S1x1280.size inb_S16x1280_S1x1280_5_0)))
    (k0_pay61 (View.ld x1 (Rect.unit ![768, 0] S128x1280.size inb_S2048x1280_S128x1280_768_0)) (View.ld x2 (Rect.unit ![6, 0] S1x1280.size inb_S16x1280_S1x1280_6_0)))
    (k0_pay62 (View.ld x1 (Rect.unit ![896, 0] S128x1280.size inb_S2048x1280_S128x1280_896_0)) (View.ld x2 (Rect.unit ![7, 0] S1x1280.size inb_S16x1280_S1x1280_7_0)))
    (k0_pay63 (View.ld x1 (Rect.unit ![1024, 0] S128x1280.size inb_S2048x1280_S128x1280_1024_0)) (View.ld x2 (Rect.unit ![8, 0] S1x1280.size inb_S16x1280_S1x1280_8_0)))
    (k0_pay64 (View.ld x1 (Rect.unit ![1152, 0] S128x1280.size inb_S2048x1280_S128x1280_1152_0)) (View.ld x2 (Rect.unit ![9, 0] S1x1280.size inb_S16x1280_S1x1280_9_0)))
    (k0_pay65 (View.ld x1 (Rect.unit ![1280, 0] S128x1280.size inb_S2048x1280_S128x1280_1280_0)) (View.ld x2 (Rect.unit ![10, 0] S1x1280.size inb_S16x1280_S1x1280_10_0)))
    (View.ld x1 (Rect.unit ![1408, 0] S128x1280.size inb_S2048x1280_S128x1280_1408_0)) (View.ld x2 (Rect.unit ![11, 0] S1x1280.size inb_S16x1280_S1x1280_11_0))
    (View.ld x1 (Rect.unit ![1536, 0] S128x1280.size inb_S2048x1280_S128x1280_1536_0)) (View.ld x2 (Rect.unit ![12, 0] S1x1280.size inb_S16x1280_S1x1280_12_0))
    (View.ld x1 (Rect.unit ![1664, 0] S128x1280.size inb_S2048x1280_S128x1280_1664_0)) (View.ld x2 (Rect.unit ![13, 0] S1x1280.size inb_S16x1280_S1x1280_13_0))
    (View.ld x1 (Rect.unit ![1792, 0] S128x1280.size inb_S2048x1280_S128x1280_1792_0)) (View.ld x2 (Rect.unit ![14, 0] S1x1280.size inb_S16x1280_S1x1280_14_0))
    (View.ld x1 (Rect.unit ![1920, 0] S128x1280.size inb_S2048x1280_S128x1280_1920_0)) (View.ld x2 (Rect.unit ![15, 0] S1x1280.size inb_S16x1280_S1x1280_15_0))
    xs x0)

/-- The pieces a rotated block is stored in: eight groups of 128 rows of the finished sum `acc`, rotated with the same
    rows of the two tables. -/
def ropePieces (acc : Vec F S1024x1280 .f32) (x3 x4 : Vec F S1024x640 .f32) : List (View.Piece (Elt F) S1024x1280 .bf16) :=
  [⟨Rect.unit ![896, 0] S128x1280.size inb_S1024x1280_S128x1280_896_0, k0_pay2 (View.ld acc (Rect.unit ![896, 0] S128x1280.size inb_S1024x1280_S128x1280_896_0)) (View.ld x3 (Rect.unit ![896, 0] S128x640.size inb_S1024x640_S128x640_896_0)) (View.ld x4 (Rect.unit ![896, 0] S128x640.size inb_S1024x640_S128x640_896_0))⟩,
   ⟨Rect.unit ![768, 0] S128x1280.size inb_S1024x1280_S128x1280_768_0, k0_pay2 (View.ld acc (Rect.unit ![768, 0] S128x1280.size inb_S1024x1280_S128x1280_768_0)) (View.ld x3 (Rect.unit ![768, 0] S128x640.size inb_S1024x640_S128x640_768_0)) (View.ld x4 (Rect.unit ![768, 0] S128x640.size inb_S1024x640_S128x640_768_0))⟩,
   ⟨Rect.unit ![640, 0] S128x1280.size inb_S1024x1280_S128x1280_640_0, k0_pay2 (View.ld acc (Rect.unit ![640, 0] S128x1280.size inb_S1024x1280_S128x1280_640_0)) (View.ld x3 (Rect.unit ![640, 0] S128x640.size inb_S1024x640_S128x640_640_0)) (View.ld x4 (Rect.unit ![640, 0] S128x640.size inb_S1024x640_S128x640_640_0))⟩,
   ⟨Rect.unit ![512, 0] S128x1280.size inb_S1024x1280_S128x1280_512_0, k0_pay2 (View.ld acc (Rect.unit ![512, 0] S128x1280.size inb_S1024x1280_S128x1280_512_0)) (View.ld x3 (Rect.unit ![512, 0] S128x640.size inb_S1024x640_S128x640_512_0)) (View.ld x4 (Rect.unit ![512, 0] S128x640.size inb_S1024x640_S128x640_512_0))⟩,
   ⟨Rect.unit ![384, 0] S128x1280.size inb_S1024x1280_S128x1280_384_0, k0_pay2 (View.ld acc (Rect.unit ![384, 0] S128x1280.size inb_S1024x1280_S128x1280_384_0)) (View.ld x3 (Rect.unit ![384, 0] S128x640.size inb_S1024x640_S128x640_384_0)) (View.ld x4 (Rect.unit ![384, 0] S128x640.size inb_S1024x640_S128x640_384_0))⟩,
   ⟨Rect.unit ![256, 0] S128x1280.size inb_S1024x1280_S128x1280_256_0, k0_pay2 (View.ld acc (Rect.unit ![256, 0] S128x1280.size inb_S1024x1280_S128x1280_256_0)) (View.ld x3 (Rect.unit ![256, 0] S128x640.size inb_S1024x640_S128x640_256_0)) (View.ld x4 (Rect.unit ![256, 0] S128x640.size inb_S1024x640_S128x640_256_0))⟩,
   ⟨Rect.unit ![128, 0] S128x1280.size inb_S1024x1280_S128x1280_128_0, k0_pay2 (View.ld acc (Rect.unit ![128, 0] S128x1280.size inb_S1024x1280_S128x1280_128_0)) (View.ld x3 (Rect.unit ![128, 0] S128x640.size inb_S1024x640_S128x640_128_0)) (View.ld x4 (Rect.unit ![128, 0] S128x640.size inb_S1024x640_S128x640_128_0))⟩,
   ⟨Rect.unit ![0, 0] S128x1280.size inb_S1024x1280_S128x1280_0_0, k0_pay2 (View.ld acc (Rect.unit ![0, 0] S128x1280.size inb_S1024x1280_S128x1280_0_0)) (View.ld x3 (Rect.unit ![0, 0] S128x640.size inb_S1024x640_S128x640_0_0)) (View.ld x4 (Rect.unit ![0, 0] S128x640.size inb_S1024x640_S128x640_0_0))⟩]

/-- The pieces the value block is stored in: eight groups of 128 rows of the finished sum `acc`, cast. -/
def castPieces (acc : Vec F S1024x1280 .f32) : List (View.Piece (Elt F) S1024x1280 .bf16) :=
  [⟨Rect.unit ![896, 0] S128x1280.size inb_S1024x1280_S128x1280_896_0, k0_pay46 (View.ld acc (Rect.unit ![896, 0] S128x1280.size inb_S1024x1280_S128x1280_896_0))⟩,
   ⟨Rect.unit ![768, 0] S128x1280.size inb_S1024x1280_S128x1280_768_0, k0_pay46 (View.ld acc (Rect.unit ![768, 0] S128x1280.size inb_S1024x1280_S128x1280_768_0))⟩,
   ⟨Rect.unit ![640, 0] S128x1280.size inb_S1024x1280_S128x1280_640_0, k0_pay46 (View.ld acc (Rect.unit ![640, 0] S128x1280.size inb_S1024x1280_S128x1280_640_0))⟩,
   ⟨Rect.unit ![512, 0] S128x1280.size inb_S1024x1280_S128x1280_512_0, k0_pay46 (View.ld acc (Rect.unit ![512, 0] S128x1280.size inb_S1024x1280_S128x1280_512_0))⟩,
   ⟨Rect.unit ![384, 0] S128x1280.size inb_S1024x1280_S128x1280_384_0, k0_pay46 (View.ld acc (Rect.unit ![384, 0] S128x1280.size inb_S1024x1280_S128x1280_384_0))⟩,
   ⟨Rect.unit ![256, 0] S128x1280.size inb_S1024x1280_S128x1280_256_0, k0_pay46 (View.ld acc (Rect.unit ![256, 0] S128x1280.size inb_S1024x1280_S128x1280_256_0))⟩,
   ⟨Rect.unit ![128, 0] S128x1280.size inb_S1024x1280_S128x1280_128_0, k0_pay46 (View.ld acc (Rect.unit ![128, 0] S128x1280.size inb_S1024x1280_S128x1280_128_0))⟩,
   ⟨Rect.unit ![0, 0] S128x1280.size inb_S1024x1280_S128x1280_0_0, k0_pay46 (View.ld acc (Rect.unit ![0, 0] S128x1280.size inb_S1024x1280_S128x1280_0_0))⟩]

/-- The rotated block. -/
def ropeBlock (acc : Vec F S1024x1280 .f32) (x3 x4 : Vec F S1024x640 .f32) : Vec F S1024x1280 .bf16 := View.canon (ropePieces acc x3 x4)

/-- The value block. -/
def castBlock (acc : Vec F S1024x1280 .f32) : Vec F S1024x1280 .bf16 := View.canon (castPieces acc)

/-- The eight row groups cover the block. -/
theorem ropePieces_cover (acc : Vec F S1024x1280 .f32) (x3 x4 : Vec F S1024x640 .f32) : ∀ y, ∃ p ∈ ropePieces acc x3 x4, y ∈ p.1.set :=
  fun y => View.cover_of_tiled_head _ _ _ (by rfl) y

theorem castPieces_cover (acc : Vec F S1024x1280 .f32) : ∀ y, ∃ p ∈ castPieces acc, y ∈ p.1.set :=
  fun y => View.cover_of_tiled_head _ _ _ (by rfl) y

theorem hz : (![0, 0] : Fin 2 → Nat) = fun _ => 0 := funext fun a => by fin_cases a <;> rfl

/-- A store through the whole block writes every index. -/
theorem whole_mem (inb) (y : S1024x1280.Idx) : y ∈ (Rect.unit (s := S1024x1280) ![0, 0] ![1024, 1280] inb).set :=
  Rect.mem_set_unit.mpr fun a => by
    have := (y a).isLt
    fin_cases a
    · exact ⟨Nat.zero_le _, by simpa using this⟩
    · exact ⟨Nat.zero_le _, by simpa using this⟩

/-- One store through the whole block covers it. -/
theorem whole_cover (inb) (w : Vec F S1024x1280 .f32) :
    ∀ y, ∃ p ∈ [(⟨Rect.unit (s := S1024x1280) ![0, 0] ![1024, 1280] inb, w⟩ : View.Piece (Elt F) S1024x1280 .f32)], y ∈ p.1.set :=
  fun y => ⟨_, List.mem_cons_self, whole_mem inb y⟩

/-- A load of part of the block after one store through the whole of it reads the payload there. -/
theorem readCov_whole (v : View sig .tc .vmem S1024x1280 .f32) (inb) (w : Vec F S1024x1280 .f32) (r : Rect S1024x1280) :
    v.readCov [(⟨Rect.unit (s := S1024x1280) ![0, 0] ![1024, 1280] inb, w⟩ : View.Piece (Elt F) S1024x1280 .f32)] r.toLoadRect = View.ld w r := by
  rw [View.readCov_eq_canon_ld _ _ _ (whole_cover inb w), View.canon_unit_zero (S := S1024x1280) hz]

end Cert.KernelIdeal.Body

end
-- ==== Proof.BlockAcc.lean ====
/-
  The partial sum after one reduction step, read at an index.
-/
module

public import proofs.«01_k».proof.Proof.Blocks
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The weight block with each group of 128 rows scaled by its row of `x2`. -/
def scaledW (x1 : Vec Ideal S2048x1280 .fp8e4m3) (x2 : Vec Ideal S16x1280 .bf16) : FVec Ideal S2048x1280 .bf16 :=
  concatenate S2048x1280 0
    [⟨S128x1280, k0_pay55 (View.ld x1 (Rect.unit ![0, 0] S128x1280.size inb_S2048x1280_S128x1280_0_0)) (View.ld x2 (Rect.unit ![0, 0] S1x1280.size inb_S16x1280_S1x1280_0_0))⟩,
     ⟨S128x1280, k0_pay55 (View.ld x1 (Rect.unit ![128, 0] S128x1280.size inb_S2048x1280_S128x1280_128_0)) (View.ld x2 (Rect.unit ![1, 0] S1x1280.size inb_S16x1280_S1x1280_1_0))⟩,
     ⟨S128x1280, k0_pay55 (View.ld x1 (Rect.unit ![256, 0] S128x1280.size inb_S2048x1280_S128x1280_256_0)) (View.ld x2 (Rect.unit ![2, 0] S1x1280.size inb_S16x1280_S1x1280_2_0))⟩,
     ⟨S128x1280, k0_pay55 (View.ld x1 (Rect.unit ![384, 0] S128x1280.size inb_S2048x1280_S128x1280_384_0)) (View.ld x2 (Rect.unit ![3, 0] S1x1280.size inb_S16x1280_S1x1280_3_0))⟩,
     ⟨S128x1280, k0_pay55 (View.ld x1 (Rect.unit ![512, 0] S128x1280.size inb_S2048x1280_S128x1280_512_0)) (View.ld x2 (Rect.unit ![4, 0] S1x1280.size inb_S16x1280_S1x1280_4_0))⟩,
     ⟨S128x1280, k0_pay55 (View.ld x1 (Rect.unit ![640, 0] S128x1280.size inb_S2048x1280_S128x1280_640_0)) (View.ld x2 (Rect.unit ![5, 0] S1x1280.size inb_S16x1280_S1x1280_5_0))⟩,
     ⟨S128x1280, k0_pay55 (View.ld x1 (Rect.unit ![768, 0] S128x1280.size inb_S2048x1280_S128x1280_768_0)) (View.ld x2 (Rect.unit ![6, 0] S1x1280.size inb_S16x1280_S1x1280_6_0))⟩,
     ⟨S128x1280, k0_pay55 (View.ld x1 (Rect.unit ![896, 0] S128x1280.size inb_S2048x1280_S128x1280_896_0)) (View.ld x2 (Rect.unit ![7, 0] S1x1280.size inb_S16x1280_S1x1280_7_0))⟩,
     ⟨S128x1280, k0_pay55 (View.ld x1 (Rect.unit ![1024, 0] S128x1280.size inb_S2048x1280_S128x1280_1024_0)) (View.ld x2 (Rect.unit ![8, 0] S1x1280.size inb_S16x1280_S1x1280_8_0))⟩,
     ⟨S128x1280, k0_pay55 (View.ld x1 (Rect.unit ![1152, 0] S128x1280.size inb_S2048x1280_S128x1280_1152_0)) (View.ld x2 (Rect.unit ![9, 0] S1x1280.size inb_S16x1280_S1x1280_9_0))⟩,
     ⟨S128x1280, k0_pay55 (View.ld x1 (Rect.unit ![1280, 0] S128x1280.size inb_S2048x1280_S128x1280_1280_0)) (View.ld x2 (Rect.unit ![10, 0] S1x1280.size inb_S16x1280_S1x1280_10_0))⟩,
     ⟨S128x1280, k0_pay55 (View.ld x1 (Rect.unit ![1408, 0] S128x1280.size inb_S2048x1280_S128x1280_1408_0)) (View.ld x2 (Rect.unit ![11, 0] S1x1280.size inb_S16x1280_S1x1280_11_0))⟩,
     ⟨S128x1280, k0_pay55 (View.ld x1 (Rect.unit ![1536, 0] S128x1280.size inb_S2048x1280_S128x1280_1536_0)) (View.ld x2 (Rect.unit ![12, 0] S1x1280.size inb_S16x1280_S1x1280_12_0))⟩,
     ⟨S128x1280, k0_pay55 (View.ld x1 (Rect.unit ![1664, 0] S128x1280.size inb_S2048x1280_S128x1280_1664_0)) (View.ld x2 (Rect.unit ![13, 0] S1x1280.size inb_S16x1280_S1x1280_13_0))⟩,
     ⟨S128x1280, k0_pay55 (View.ld x1 (Rect.unit ![1792, 0] S128x1280.size inb_S2048x1280_S128x1280_1792_0)) (View.ld x2 (Rect.unit ![14, 0] S1x1280.size inb_S16x1280_S1x1280_14_0))⟩,
     ⟨S128x1280, k0_pay55 (View.ld x1 (Rect.unit ![1920, 0] S128x1280.size inb_S2048x1280_S128x1280_1920_0)) (View.ld x2 (Rect.unit ![15, 0] S1x1280.size inb_S16x1280_S1x1280_15_0))⟩]
    concatenates_S128x1280_S128x1280_S128x1280_S128x1280_S128x1280_S128x1280_S128x1280_S128x1280_S128x1280_S128x1280_S128x1280_S128x1280_S128x1280_S128x1280_S128x1280_S128x1280_S2048x1280_d0

theorem accStep_eq (x0 : FVec Ideal S1024x2048 .bf16) (x1 : Vec Ideal S2048x1280 .fp8e4m3) (x2 : Vec Ideal S16x1280 .bf16) (xs : Vec Ideal S1024x1280 .f32) :
    accStep x0 x1 x2 xs = shapeCast S1024x1280 (addf xs (matmul dot_S1024x2048_S2048x1280_S1024x1280_1_0_0_1_n_n none x0 (scaledW x1 x2) (constant S1024x1280 .f32 0x00000000#32))) shapeCasts_S1024x1280_S1024x1280 := rfl

/-- One scaled group at an index. -/
theorem group_apply (a : Vec Ideal S128x1280 .fp8e4m3) (b : Vec Ideal S1x1280 .bf16) (k : Fin 128) (j : Fin 1280) :
    k0_pay55 a b (ix2 k j) = (a (ix2 k j) * b (ix2 0 j) : EReal) := by
  pointwise [k0_pay55]

/-- Groups of 128 rows stacked, read at a row: if the groups hold the rows of `G` in order, from group `b` on, so does the
    stack. -/
theorem stack_rows (j : Fin 1280) (G : ℕ → EReal) (k : Fin 2048) :
    ∀ (L : List (S128x1280.Idx → EReal)) (b : ℕ) (_ : ∀ n (h : n < L.length) (i : Fin 128), L[n] (ix2 i j) = G (128 * (b + n) + i.val))
      (hs) (c : ℕ) (hc),
      concatenateAt S2048x1280 0 (ix2 k j) (L.map fun p => (⟨S128x1280, p⟩ : (s : Shape) × (s.Idx → EReal))) hs c hc = G (128 * b + c)
  | [], b, h, hs, c, hc => absurd hc (by simp [axisSizes])
  | [p], b, h, hs, c, hc => by
    have hc' : c < 128 := by simpa [axisSizes] using hc
    have e := h 0 (by simp) ⟨c, hc'⟩
    simp only [List.map_cons, List.map_nil] at hc ⊢
    rw [concatenateAt_singleton]
    refine Eq.trans (congrArg p ?_) e
    funext a; apply Fin.ext; fin_cases a <;> rfl
  | p :: q :: L, b, h, hs, c, hc => by
    simp only [List.map_cons] at hc ⊢
    rw [concatenateAt_cons]
    split
    · rename_i hlt
      have hc' : c < 128 := hlt
      have e := h 0 (by simp) ⟨c, hc'⟩
      refine Eq.trans (congrArg p ?_) e
      funext a; apply Fin.ext; fin_cases a <;> rfl
    · rename_i hlt
      have hc' : ¬ c < 128 := hlt
      have e := stack_rows j G k (q :: L) (b + 1) (fun n hn i => by
        have := h (n + 1) (by simpa using hn) i
        simpa [Nat.add_assoc, Nat.add_comm 1 n] using this) (fun s' h' => hs s' (List.mem_cons_of_mem _ h')) (c - 128)
      refine (e _).trans (congrArg G ?_)
      omega

/-- The group `g` at an index, in the block's own coordinates. -/
theorem group_at (x1 : Vec Ideal S2048x1280 .fp8e4m3) (x2 : Vec Ideal S16x1280 .bf16) (j : Fin 1280) (i : Fin 128) (g : ℕ) (hg : g < 16)
    (inb1 : ∀ a, (![128 * g, 0] : Fin 2 → Nat) a + S128x1280.size a ≤ S2048x1280.size a)
    (inb2 : ∀ a, (![g, 0] : Fin 2 → Nat) a + S1x1280.size a ≤ S16x1280.size a) :
    k0_pay55 (View.ld x1 (Rect.unit ![128 * g, 0] S128x1280.size inb1)) (View.ld x2 (Rect.unit ![g, 0] S1x1280.size inb2)) (ix2 i j)
      = (if h : 128 * g + i.val < 2048 then x1 (ix2 ⟨128 * g + i.val, h⟩ j) * x2 (ix2 ⟨(128 * g + i.val) / 128, by omega⟩ j) else 0 : EReal) := by
  have hi := i.isLt
  rw [group_apply, dif_pos (by omega)]
  congr 1
  · exact View.ld_unit_apply_of _ _ _ _ _ _ fun a => by fin_cases a <;> simp [ix2]
  · exact View.ld_unit_apply_of _ _ _ _ _ _ fun a => by
      fin_cases a
      · simp [ix2]; omega
      · simp [ix2]

/-- The scaled weight block at an index. -/
theorem scaledW_apply (x1 : Vec Ideal S2048x1280 .fp8e4m3) (x2 : Vec Ideal S16x1280 .bf16) (k : Fin 2048) (j : Fin 1280) :
    scaledW x1 x2 (ix2 k j) = (x1 (ix2 k j) * x2 (ix2 ⟨k.val / 128, by omega⟩ j) : EReal) := by
  have e := fun hs hc => stack_rows j
    (fun n => if h : n < 2048 then x1 (ix2 ⟨n, h⟩ j) * x2 (ix2 ⟨n / 128, by omega⟩ j) else 0) k
    [k0_pay55 (View.ld x1 (Rect.unit ![0, 0] S128x1280.size inb_S2048x1280_S128x1280_0_0)) (View.ld x2 (Rect.unit ![0, 0] S1x1280.size inb_S16x1280_S1x1280_0_0)), k0_pay55 (View.ld x1 (Rect.unit ![128, 0] S128x1280.size inb_S2048x1280_S128x1280_128_0)) (View.ld x2 (Rect.unit ![1, 0] S1x1280.size inb_S16x1280_S1x1280_1_0)), k0_pay55 (View.ld x1 (Rect.unit ![256, 0] S128x1280.size inb_S2048x1280_S128x1280_256_0)) (View.ld x2 (Rect.unit ![2, 0] S1x1280.size inb_S16x1280_S1x1280_2_0)), k0_pay55 (View.ld x1 (Rect.unit ![384, 0] S128x1280.size inb_S2048x1280_S128x1280_384_0)) (View.ld x2 (Rect.unit ![3, 0] S1x1280.size inb_S16x1280_S1x1280_3_0)), k0_pay55 (View.ld x1 (Rect.unit ![512, 0] S128x1280.size inb_S2048x1280_S128x1280_512_0)) (View.ld x2 (Rect.unit ![4, 0] S1x1280.size inb_S16x1280_S1x1280_4_0)), k0_pay55 (View.ld x1 (Rect.unit ![640, 0] S128x1280.size inb_S2048x1280_S128x1280_640_0)) (View.ld x2 (Rect.unit ![5, 0] S1x1280.size inb_S16x1280_S1x1280_5_0)), k0_pay55 (View.ld x1 (Rect.unit ![768, 0] S128x1280.size inb_S2048x1280_S128x1280_768_0)) (View.ld x2 (Rect.unit ![6, 0] S1x1280.size inb_S16x1280_S1x1280_6_0)), k0_pay55 (View.ld x1 (Rect.unit ![896, 0] S128x1280.size inb_S2048x1280_S128x1280_896_0)) (View.ld x2 (Rect.unit ![7, 0] S1x1280.size inb_S16x1280_S1x1280_7_0)), k0_pay55 (View.ld x1 (Rect.unit ![1024, 0] S128x1280.size inb_S2048x1280_S128x1280_1024_0)) (View.ld x2 (Rect.unit ![8, 0] S1x1280.size inb_S16x1280_S1x1280_8_0)), k0_pay55 (View.ld x1 (Rect.unit ![1152, 0] S128x1280.size inb_S2048x1280_S128x1280_1152_0)) (View.ld x2 (Rect.unit ![9, 0] S1x1280.size inb_S16x1280_S1x1280_9_0)), k0_pay55 (View.ld x1 (Rect.unit ![1280, 0] S128x1280.size inb_S2048x1280_S128x1280_1280_0)) (View.ld x2 (Rect.unit ![10, 0] S1x1280.size inb_S16x1280_S1x1280_10_0)), k0_pay55 (View.ld x1 (Rect.unit ![1408, 0] S128x1280.size inb_S2048x1280_S128x1280_1408_0)) (View.ld x2 (Rect.unit ![11, 0] S1x1280.size inb_S16x1280_S1x1280_11_0)), k0_pay55 (View.ld x1 (Rect.unit ![1536, 0] S128x1280.size inb_S2048x1280_S128x1280_1536_0)) (View.ld x2 (Rect.unit ![12, 0] S1x1280.size inb_S16x1280_S1x1280_12_0)), k0_pay55 (View.ld x1 (Rect.unit ![1664, 0] S128x1280.size inb_S2048x1280_S128x1280_1664_0)) (View.ld x2 (Rect.unit ![13, 0] S1x1280.size inb_S16x1280_S1x1280_13_0)), k0_pay55 (View.ld x1 (Rect.unit ![1792, 0] S128x1280.size inb_S2048x1280_S128x1280_1792_0)) (View.ld x2 (Rect.unit ![14, 0] S1x1280.size inb_S16x1280_S1x1280_14_0)), k0_pay55 (View.ld x1 (Rect.unit ![1920, 0] S128x1280.size inb_S2048x1280_S128x1280_1920_0)) (View.ld x2 (Rect.unit ![15, 0] S1x1280.size inb_S16x1280_S1x1280_15_0))]
    0 (fun n hn i => by
    simp only [List.length_cons, List.length_nil, Nat.reduceAdd] at hn
    rw [Nat.zero_add]
    interval_cases n
    · exact group_at x1 x2 j i 0 (by norm_num) inb_S2048x1280_S128x1280_0_0 inb_S16x1280_S1x1280_0_0
    · exact group_at x1 x2 j i 1 (by norm_num) inb_S2048x1280_S128x1280_128_0 inb_S16x1280_S1x1280_1_0
    · exact group_at x1 x2 j i 2 (by norm_num) inb_S2048x1280_S128x1280_256_0 inb_S16x1280_S1x1280_2_0
    · exact group_at x1 x2 j i 3 (by norm_num) inb_S2048x1280_S128x1280_384_0 inb_S16x1280_S1x1280_3_0
    · exact group_at x1 x2 j i 4 (by norm_num) inb_S2048x1280_S128x1280_512_0 inb_S16x1280_S1x1280_4_0
    · exact group_at x1 x2 j i 5 (by norm_num) inb_S2048x1280_S128x1280_640_0 inb_S16x1280_S1x1280_5_0
    · exact group_at x1 x2 j i 6 (by norm_num) inb_S2048x1280_S128x1280_768_0 inb_S16x1280_S1x1280_6_0
    · exact group_at x1 x2 j i 7 (by norm_num) inb_S2048x1280_S128x1280_896_0 inb_S16x1280_S1x1280_7_0
    · exact group_at x1 x2 j i 8 (by norm_num) inb_S2048x1280_S128x1280_1024_0 inb_S16x1280_S1x1280_8_0
    · exact group_at x1 x2 j i 9 (by norm_num) inb_S2048x1280_S128x1280_1152_0 inb_S16x1280_S1x1280_9_0
    · exact group_at x1 x2 j i 10 (by norm_num) inb_S2048x1280_S128x1280_1280_0 inb_S16x1280_S1x1280_10_0
    · exact group_at x1 x2 j i 11 (by norm_num) inb_S2048x1280_S128x1280_1408_0 inb_S16x1280_S1x1280_11_0
    · exact group_at x1 x2 j i 12 (by norm_num) inb_S2048x1280_S128x1280_1536_0 inb_S16x1280_S1x1280_12_0
    · exact group_at x1 x2 j i 13 (by norm_num) inb_S2048x1280_S128x1280_1664_0 inb_S16x1280_S1x1280_13_0
    · exact group_at x1 x2 j i 14 (by norm_num) inb_S2048x1280_S128x1280_1792_0 inb_S16x1280_S1x1280_14_0
    · exact group_at x1 x2 j i 15 (by norm_num) inb_S2048x1280_S128x1280_1920_0 inb_S16x1280_S1x1280_15_0
    ) hs k.val hc
  unfold scaledW
  rw [concatenate_apply]
  refine (e _ _).trans ?_
  rw [Nat.mul_zero, Nat.zero_add, dif_pos k.isLt]

theorem accStep_apply (x0 : Vec Ideal S1024x2048 .bf16) (x1 : Vec Ideal S2048x1280 .fp8e4m3) (x2 : Vec Ideal S16x1280 .bf16) (xs : Vec Ideal S1024x1280 .f32)
    (r : Fin 1024) (j : Fin 1280) :
    accStep x0 x1 x2 xs (ix2 r j) = (xs (ix2 r j) + ∑ k : Fin 2048, x0 (ix2 r k) * (x1 (ix2 k j) * x2 (ix2 ⟨k.val / 128, by omega⟩ j)) : EReal) := by
  rw [accStep_eq]
  pointwise [scaledW_apply]

/-- The partial sum starts from zero. -/
theorem zero_apply (r : Fin 1024) (j : Fin 1280) : (k0_pay54 (F := Ideal)) (ix2 r j) = (0 : EReal) := by
  pointwise [k0_pay54]

end Cert.KernelIdeal.Body

end
-- ==== Proof.Data.lean ====
/-
  What the pipeline holds from point to point: the partial sum after each grid point, the block each output's buffer
  holds, and where an output's buffer is carried from one point to the next.
-/
module

public import proofs.«01_k».proof.Proof.Blocks
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The partial sum after the point `n`: it starts from zero at every eighth point. -/
def acc (c : Dev nD) : (n : ℕ) → n < cfg0.N → Vec F S1024x1280 .f32
  | 0, h => accStep (iblk m c 0 ⟨0, h⟩) (iblk m c 1 ⟨0, h⟩) (iblk m c 2 ⟨0, h⟩) k0_pay54
  | n + 1, h => accStep (iblk m c 0 ⟨n + 1, h⟩) (iblk m c 1 ⟨n + 1, h⟩) (iblk m c 2 ⟨n + 1, h⟩)
      (if (n + 1) % 8 = 0 then k0_pay54 else acc c n (Nat.lt_of_succ_lt h))

/-- The partial sum after the point `t`. -/
abbrev accAt (c : Dev nD) (t : Fin cfg0.N) : Vec F S1024x1280 .f32 := acc m c t.val t.isLt

theorem acc_reset (c : Dev nD) : ∀ (n : ℕ) (h : n < cfg0.N), n % 8 = 0 →
    acc m c n h = accStep (iblk m c 0 ⟨n, h⟩) (iblk m c 1 ⟨n, h⟩) (iblk m c 2 ⟨n, h⟩) k0_pay54
  | 0, _, _ => rfl
  | n + 1, h, h8 => by rw [acc, if_pos h8]

theorem acc_step (c : Dev nD) : ∀ (n : ℕ) (h : n < cfg0.N), n % 8 ≠ 0 →
    acc m c n h = accStep (iblk m c 0 ⟨n, h⟩) (iblk m c 1 ⟨n, h⟩) (iblk m c 2 ⟨n, h⟩) (acc m c (n - 1) (by omega))
  | 0, _, h8 => absurd rfl h8
  | n + 1, h, h8 => by rw [acc, if_neg h8]; rfl

/-! ## The point whose block each output's buffer holds -/

theorem N_eq : cfg0.N = 672 := N_0

/-- The query output: the last reduction step of the point's column block, or of the last query column block of the
    row block when the point is past it. -/
def ptQ (t : Fin cfg0.N) : Fin cfg0.N := ⟨min (8 * (t.val / 8) + 7) (112 * (t.val / 112) + 95), by have := t.isLt; have := N_eq; omega⟩
/-- The key output: the last reduction step of the row block's key column block. -/
def ptK (t : Fin cfg0.N) : Fin cfg0.N := ⟨112 * (t.val / 112) + 103, by have := t.isLt; have := N_eq; omega⟩
/-- The value output: the last point of the row block. -/
def ptV (t : Fin cfg0.N) : Fin cfg0.N := ⟨112 * (t.val / 112) + 111, by have := t.isLt; have := N_eq; omega⟩

def PhiS (c : Dev nD) : (n : ℕ) → n ≤ cfg0.N → sProp 𝕄
  | 0, _ => Pipeline.ΦA spec0 c
  | n + 1, h => iprop(owns (c : Thread nD τ) scM0_0 fullShare (acc m c n h) ∗ (∃ r, prngReg c r))

/-- The proof data of the pipeline: after a point each input's buffer holds its block, each output's the block of the
    point named above, and between points the scratch buffer holds the partial sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ropeBlock (accAt m c (ptQ t)) (iblk m c 3 (ptQ t)) (iblk m c 4 (ptQ t))
    | ⟨6, _⟩ => ropeBlock (accAt m c (ptK t)) (iblk m c 3 (ptK t)) (iblk m c 4 (ptK t))
    | ⟨7, _⟩ => castBlock (accAt m c (ptV t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ropeBlock (accAt m c (ptQ t)) (iblk m c 3 (ptQ t)) (iblk m c 4 (ptQ t)) := by dsimp only [dats]
theorem after0_6 (c : Dev nD) (t : Fin cfg0.N) : (dats m 0 c).after 6 t = ropeBlock (accAt m c (ptK t)) (iblk m c 3 (ptK t)) (iblk m c 4 (ptK t)) := by dsimp only [dats]
theorem after0_7 (c : Dev nD) (t : Fin cfg0.N) : (dats m 0 c).after 7 t = castBlock (accAt m c (ptV t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The invariant between points -/

/-- Before any point the scratch buffer holds something. -/
theorem PhiS_some (c : Dev nD) : ∀ (n : ℕ) (h : n ≤ cfg0.N),
    PhiS m c n h ⊢ (iprop(iprop((∃ d, owns (c : Thread nD τ) scM0_0 fullShare d)) ∗ (∃ r, prngReg c r)) : sProp 𝕄)
  | 0, _ => by rw [PhiS, PhiA0_eq]
  | n + 1, _ => by
    rw [PhiS]
    iintro ⟨HS, Hr⟩
    isplitl [HS]
    · iexists _; iexact HS
    iexact Hr

/-- Before a point past the first it holds the partial sum after the point before. -/
theorem PhiS_pos (c : Dev nD) : ∀ (n : ℕ) (h : n ≤ cfg0.N) (h0 : n ≠ 0),
    PhiS m c n h = (iprop(owns (c : Thread nD τ) scM0_0 fullShare (acc m c (n - 1) (by omega)) ∗ (∃ r, prngReg c r)) : sProp 𝕄)
  | 0, _, h0 => absurd rfl h0
  | n + 1, _, _ => rfl

/-! ## Where the outputs are idle, written back, and carried -/

theorem idle5_of (t : Fin cfg0.N) (h : ¬cond0_1 (grid0.coords t)) : cfg0.idle 5 (grid0.coords t) = true := by
  show (!(k0_cond2 (grid0.coords t) == 1#1)) = true
  simpa [cond0_1] using h
theorem live5_of (t : Fin cfg0.N) (h : cond0_1 (grid0.coords t)) : cfg0.idle 5 (grid0.coords t) = false := by
  show (!(k0_cond2 (grid0.coords t) == 1#1)) = false
  simpa [cond0_1] using h
theorem idle6_of (t : Fin cfg0.N) (h : ¬cond0_2 (grid0.coords t)) : cfg0.idle 6 (grid0.coords t) = true := by
  show (!(k0_cond3 (grid0.coords t) == 1#1)) = true
  simpa [cond0_2] using h
theorem live6_of (t : Fin cfg0.N) (h : cond0_2 (grid0.coords t)) : cfg0.idle 6 (grid0.coords t) = false := by
  show (!(k0_cond3 (grid0.coords t) == 1#1)) = false
  simpa [cond0_2] using h
theorem idle7_of (t : Fin cfg0.N) (h : ¬cond0_3 (grid0.coords t)) : cfg0.idle 7 (grid0.coords t) = true := by
  show (!(k0_cond4 (grid0.coords t) == 1#1)) = true
  simpa [cond0_3] using h
theorem live7_of (t : Fin cfg0.N) (h : cond0_3 (grid0.coords t)) : cfg0.idle 7 (grid0.coords t) = false := by
  show (!(k0_cond4 (grid0.coords t) == 1#1)) = false
  simpa [cond0_3] using h

/-- The query output is written back after the last reduction step of its first eleven column blocks, and at the end of
    the row block. -/
theorem flush0_5 : ∀ t : Fin cfg0.N, (cfg0.win 5).flush t = true ↔ (t.val % 8 = 7 ∧ t.val / 8 % 14 ≤ 10) ∨ t.val % 112 = 111 :=
  (by decide +kernel : ∀ t : Fin grid0.N, win0_5.flush t = true ↔ (t.val % 8 = 7 ∧ t.val / 8 % 14 ≤ 10) ∨ t.val % 112 = 111)

theorem fresh5 : ∀ n, n ≤ cfg0.N → cfg0.fresh 5 n = decide (n % 112 < 96) :=
  Pipeline.Cfg.fresh_tab cfg0 5 (fun n => decide (n % 112 < 96)) rfl
    (by decide +kernel : ∀ t : Fin grid0.N, decide ((t.val + 1) % 112 < 96) = (win0_5.flush t || (idle0 5 (grid0.coords t) && decide (t.val % 112 < 96))))
theorem fresh6 : ∀ n, n ≤ cfg0.N → cfg0.fresh 6 n = decide (n % 112 < 104) :=
  Pipeline.Cfg.fresh_tab cfg0 6 (fun n => decide (n % 112 < 104)) rfl
    (by decide +kernel : ∀ t : Fin grid0.N, decide ((t.val + 1) % 112 < 104) = (win0_6.flush t || (idle0 6 (grid0.coords t) && decide (t.val % 112 < 104))))

/-- Between its last column block and its write-back the query output's buffer holds that block. -/
theorem carry5 (c : Dev nD) (t : Fin cfg0.N) (h0 : t.val ≠ 0) (hf : cfg0.fresh 5 t.val = false) :
    (dats m 0 c).after 5 t = (dats m 0 c).after 5 ⟨t.val - 1, by omega⟩ := by
  rw [fresh5 _ (le_of_lt t.isLt)] at hf
  have hf : ¬ t.val % 112 < 96 := of_decide_eq_false hf
  rw [after0_5, after0_5, show ptQ ⟨t.val - 1, by omega⟩ = ptQ t from Fin.ext (by simp only [ptQ]; omega)]
theorem carry6 (c : Dev nD) (t : Fin cfg0.N) (h0 : t.val ≠ 0) (hf : cfg0.fresh 6 t.val = false) :
    (dats m 0 c).after 6 t = (dats m 0 c).after 6 ⟨t.val - 1, by omega⟩ := by
  rw [fresh6 _ (le_of_lt t.isLt)] at hf
  have hf : ¬ t.val % 112 < 104 := of_decide_eq_false hf
  rw [after0_6, after0_6, show ptK ⟨t.val - 1, by omega⟩ = ptK t from Fin.ext (by simp only [ptK]; omega)]

theorem before0_5 (c : Dev nD) (t : Fin cfg0.N) (h : 96 ≤ t.val % 112) (d) : (dats m 0 c).before 5 t d = (dats m 0 c).after 5 t := by
  have h0 : t.val ≠ 0 := by omega
  have hf : cfg0.fresh 5 t.val = false := by rw [fresh5 _ (le_of_lt t.isLt)]; exact decide_eq_false (by omega)
  rw [(dats m 0 c).before_out_traj 5 rfl (fun _ _ => rfl) (fun t h0 _ hf => carry5 m c t h0 hf) t.val t rfl d, hf, carry5 m c t h0 hf]
  rfl
theorem before0_6 (c : Dev nD) (t : Fin cfg0.N) (h : 104 ≤ t.val % 112) (d) : (dats m 0 c).before 6 t d = (dats m 0 c).after 6 t := by
  have h0 : t.val ≠ 0 := by omega
  have hf : cfg0.fresh 6 t.val = false := by rw [fresh6 _ (le_of_lt t.isLt)]; exact decide_eq_false (by omega)
  rw [(dats m 0 c).before_out_traj 6 rfl (fun _ _ => rfl) (fun t h0 _ hf => carry6 m c t h0 hf) t.val t rfl d, hf, carry6 m c t h0 hf]
  rfl

/-! ## What an output's buffer may be left as -/

/-- At a point that stores nothing into the query output its buffer may stay as found, -/
theorem keep5 (c : Dev nD) (t : Fin cfg0.N) (h : ¬cond0_1 (grid0.coords t)) (d) :
    (owns (c : Thread nD τ) (st0_5 t) fullShare ((dats m 0 c).before 5 t d) : sProp 𝕄) ⊢ (dats m 0 c).leavesExact 5 t := by
  cases hf : (cfg0.win 5).flush t with
  | false =>
    rw [(dats m 0 c).leavesExact_idle 5 t (idle5_of t h) hf]
    iintro H; iexists d; iexact H
  | true =>
    have h1 := (flush0_5 t).mp hf
    have h2 : ¬ (t.val / 8 % 14 + 73 ≤ 12 * (t.val % 8)) := fun h' => h ((hcond0_1 t).mpr h')
    rw [before0_5 m c t (by omega)]
    unfold Dat.leavesExact; rw [idle5_of t h, hf]
/-- and at one that stores it holds the block stored. -/
theorem put5 (c : Dev nD) (t : Fin cfg0.N) (h : cond0_1 (grid0.coords t)) :
    (owns (c : Thread nD τ) (st0_5 t) fullShare (ropeBlock (accAt m c t) (iblk m c 3 t) (iblk m c 4 t)) : sProp 𝕄) ⊢ (dats m 0 c).leavesExact 5 t := by
  have h1 := (hcond0_1 t).mp h
  unfold Dat.leavesExact; rw [live5_of t h, after0_5, show ptQ t = t from Fin.ext (by simp only [ptQ]; omega)]
theorem keep6 (c : Dev nD) (t : Fin cfg0.N) (h : ¬cond0_2 (grid0.coords t)) (d) :
    (owns (c : Thread nD τ) (st0_6 t) fullShare ((dats m 0 c).before 6 t d) : sProp 𝕄) ⊢ (dats m 0 c).leavesExact 6 t := by
  cases hf : (cfg0.win 6).flush t with
  | false =>
    rw [(dats m 0 c).leavesExact_idle 6 t (idle6_of t h) hf]
    iintro H; iexists d; iexact H
  | true =>
    have h1 := (flush0_6 t).mp hf
    rw [before0_6 m c t (by omega)]
    unfold Dat.leavesExact; rw [idle6_of t h, hf]
theorem put6 (c : Dev nD) (t : Fin cfg0.N) (h : cond0_2 (grid0.coords t)) :
    (owns (c : Thread nD τ) (st0_6 t) fullShare (ropeBlock (accAt m c t) (iblk m c 3 t) (iblk m c 4 t)) : sProp 𝕄) ⊢ (dats m 0 c).leavesExact 6 t := by
  have h1 := (hcond0_2 t).mp h
  unfold Dat.leavesExact; rw [live6_of t h, after0_6, show ptK t = t from Fin.ext (by simp only [ptK]; omega)]
theorem keep7 (c : Dev nD) (t : Fin cfg0.N) (h : ¬cond0_3 (grid0.coords t)) (d) :
    (owns (c : Thread nD τ) (st0_7 t) fullShare ((dats m 0 c).before 7 t d) : sProp 𝕄) ⊢ (dats m 0 c).leavesExact 7 t := by
  have hf : (cfg0.win 7).flush t = false := Bool.eq_false_iff.mpr fun hf => h ((hcond0_3 t).mpr ((flush0_7 t).mp hf))
  rw [(dats m 0 c).leavesExact_idle 7 t (idle7_of t h) hf]
  iintro H; iexists d; iexact H
theorem put7 (c : Dev nD) (t : Fin cfg0.N) (h : cond0_3 (grid0.coords t)) :
    (owns (c : Thread nD τ) (st0_7 t) fullShare (castBlock (accAt m c t)) : sProp 𝕄) ⊢ (dats m 0 c).leavesExact 7 t := by
  have h1 := (hcond0_3 t).mp h
  unfold Dat.leavesExact; rw [live7_of t h, after0_7, show ptV t = t from Fin.ext (by simp only [ptV]; omega)]

end Cert.KernelIdeal.Body

end
-- ==== Proof.BlockIdx.lean ====
/-
  Each window's block at a grid point, read at an index of its array.
-/
module

public import proofs.«01_k».proof.Proof.Data
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-- The grid point's coordinates: row block, column block, reduction step. -/
theorem coord0 (t : Fin cfg0.N) : (grid0.coords t 0).val = t.val / 112 % 6 := Pipeline.Grid.coords_val t 0 (by decide) rfl
theorem coord1 (t : Fin cfg0.N) : (grid0.coords t 1).val = t.val / 8 % 14 := Pipeline.Grid.coords_val t 1 (by decide) rfl
theorem coord2 (t : Fin cfg0.N) : (grid0.coords t 2).val = t.val / 1 % 8 := Pipeline.Grid.coords_val t 2 (by decide) rfl

theorem toNat_small (n : ℕ) (h : n < 672) : (BitVec.ofNat 32 n).toNat = n := by
  rw [BitVec.toNat_ofNat]; exact Nat.mod_eq_of_lt (by omega)

theorem m_lt (t : Fin cfg0.N) : t.val / 112 < 6 := by have := t.isLt; have := N_eq; omega

theorem row_of (t : Fin cfg0.N) : (BitVec.ofNat 32 (grid0.coords t 0).val).toNat = t.val / 112 := by
  have := m_lt t
  rw [coord0, toNat_small _ (by omega)]; omega
theorem col_of (t : Fin cfg0.N) : (BitVec.ofNat 32 (grid0.coords t 1).val).toNat = t.val / 8 % 14 := by
  rw [coord1, toNat_small _ (by omega)]
theorem red_of (t : Fin cfg0.N) : (BitVec.ofNat 32 (grid0.coords t 2).val).toNat = t.val % 8 := by
  rw [coord2, toNat_small _ (by omega)]; omega

/-- The row of the arrays a block's row is. -/
def grow (t : Fin cfg0.N) (i : Fin 1024) : Fin 6144 := ⟨1024 * (t.val / 112) + i.val, by have := m_lt t; omega⟩
/-- The column of the weights a block's lane is. -/
def gcol (t : Fin cfg0.N) (j : Fin 1280) : Fin 17920 := ⟨1280 * (t.val / 8 % 14) + j.val, by omega⟩
/-- The reduction index a block's reduction index is. -/
def gred (t : Fin cfg0.N) (k : Fin 2048) : Fin 16384 := ⟨2048 * (t.val % 8) + k.val, by omega⟩
/-- The scale row a block's scale row is. -/
def gsc (t : Fin cfg0.N) (g : Fin 16) : Fin 128 := ⟨16 * (t.val % 8) + g.val, by omega⟩

theorem iblk0_apply (c : Dev nD) (t : Fin cfg0.N) (i : Fin 1024) (k : Fin 2048) :
    (iblk m c 0 t : Vec F S1024x2048 .bf16) (ix2 i k) = (V m c main_arg0 : Vec F S6144x16384 .bf16) (ix2 (grow t i) (gred t k)) := by
  unfold iblk
  rw [View.read_apply]
  show V m c main_arg0 _ = V m c main_arg0 _
  congr 1
  funext a
  apply Fin.ext
  match a with
  | ⟨0, _⟩ => show (BitVec.ofNat 32 (grid0.coords t 0).val).toNat * 1024 + 1 * i.val = 1024 * (t.val / 112) + i.val; rw [row_of]; omega
  | ⟨1, _⟩ => show (BitVec.ofNat 32 (grid0.coords t 2).val).toNat * 2048 + 1 * k.val = 2048 * (t.val % 8) + k.val; rw [red_of]; omega

theorem iblk1_apply (c : Dev nD) (t : Fin cfg0.N) (k : Fin 2048) (j : Fin 1280) :
    (iblk m c 1 t : Vec F S2048x1280 .fp8e4m3) (ix2 k j) = (V m c main_arg1 : Vec F S16384x17920 .fp8e4m3) (ix2 (gred t k) (gcol t j)) := by
  unfold iblk
  rw [View.read_apply]
  show V m c main_arg1 _ = V m c main_arg1 _
  congr 1
  funext a
  apply Fin.ext
  match a with
  | ⟨0, _⟩ => show (BitVec.ofNat 32 (grid0.coords t 2).val).toNat * 2048 + 1 * k.val = 2048 * (t.val % 8) + k.val; rw [red_of]; omega
  | ⟨1, _⟩ => show (BitVec.ofNat 32 (grid0.coords t 1).val).toNat * 1280 + 1 * j.val = 1280 * (t.val / 8 % 14) + j.val; rw [col_of]; omega

theorem iblk2_apply (c : Dev nD) (t : Fin cfg0.N) (g : Fin 16) (j : Fin 1280) :
    (iblk m c 2 t : Vec F S16x1280 .bf16) (ix2 g j) = (V m c main_v37 : Vec F S128x17920 .bf16) (ix2 (gsc t g) (gcol t j)) := by
  unfold iblk
  rw [View.read_apply]
  show V m c main_v37 _ = V m c main_v37 _
  congr 1
  funext a
  apply Fin.ext
  match a with
  | ⟨0, _⟩ => show (BitVec.ofNat 32 (grid0.coords t 2).val).toNat * 16 + 1 * g.val = 16 * (t.val % 8) + g.val; rw [red_of]; omega
  | ⟨1, _⟩ => show (BitVec.ofNat 32 (grid0.coords t 1).val).toNat * 1280 + 1 * j.val = 1280 * (t.val / 8 % 14) + j.val; rw [col_of]; omega

theorem iblk3_apply (c : Dev nD) (t : Fin cfg0.N) (i : Fin 1024) (l : Fin 640) :
    (iblk m c 3 t : Vec F S1024x640 .f32) (ix2 i l) = (V m c main_v29 : Vec F S6144x640 .f32) (ix2 (grow t i) l) := by
  unfold iblk
  rw [View.read_apply]
  show V m c main_v29 _ = V m c main_v29 _
  congr 1
  funext a
  apply Fin.ext
  match a with
  | ⟨0, _⟩ => show (BitVec.ofNat 32 (grid0.coords t 0).val).toNat * 1024 + 1 * i.val = 1024 * (t.val / 112) + i.val; rw [row_of]; omega
  | ⟨1, _⟩ => show 0 * 640 + 1 * l.val = l.val; omega

theorem iblk4_apply (c : Dev nD) (t : Fin cfg0.N) (i : Fin 1024) (l : Fin 640) :
    (iblk m c 4 t : Vec F S1024x640 .f32) (ix2 i l) = (V m c main_v34 : Vec F S6144x640 .f32) (ix2 (grow t i) l) := by
  unfold iblk
  rw [View.read_apply]
  show V m c main_v34 _ = V m c main_v34 _
  congr 1
  funext a
  apply Fin.ext
  match a with
  | ⟨0, _⟩ => show (BitVec.ofNat 32 (grid0.coords t 0).val).toNat * 1024 + 1 * i.val = 1024 * (t.val / 112) + i.val; rw [row_of]; omega
  | ⟨1, _⟩ => show 0 * 640 + 1 * l.val = l.val; omega

end Cert.KernelIdeal.Body

end
-- ==== Proof.HostVals.lean ====
/-
  The arrays the pipeline is given, computed before it from the arguments, read at an index: the repeated scales, and
  the cosine and sine tables with each head's 160 lanes laid out four heads wide.
-/
module

public import proofs.«01_k».proof.Proof.BlockIdx
public import Idealize.ShloMosaic.Lib.StableHlo.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The rotation angles: position times inverse frequency. -/
def angles {F : FTy → Type} [FloatOps F] (p : Vec F S3 .i32) : Vec F S3x2048x80 .f32 :=
  mulf
    (broadcastInDim S3x2048x80 ![0, 1, 2] bcast_S3x2048x1_S3x2048x80_0_1_2
      (broadcastInDim S3x2048x1 ![0, 1] bcast_S3x2048_S3x2048x1_0_1
        (sitofp FTy.f32
          (addi
            (broadcastInDim S3x2048 ![0, 1] bcast_S3x1_S3x2048_0_1 (broadcastInDim S3x1 ![0] bcast_S3_S3x1_0 p))
            (broadcastInDim S3x2048 ![0, 1] bcast_S1x2048_S3x2048_0_1
              (broadcastInDim S1x2048 ![1] bcast_S2048_S1x2048_1 (iotaInDim S2048 32 0)))))))
    (broadcastInDim S3x2048x80 ![0, 1, 2] bcast_S1x1x80_S3x2048x80_0_1_2
      (broadcastInDim S1x1x80 ![2] bcast_S80_S1x1x80_2
        (Host.divf (broadcastInDim S80 ![] bcast_S_S80 (constant S_ FTy.f32 1065353216#32))
          (Host.powf (broadcastInDim S80 ![] bcast_S_S80 (constant S_ FTy.f32 1176256512#32))
            (Host.divf
              (addf (broadcastInDim S80 ![] bcast_S_S80 (constant S_ FTy.f32 0#32))
                (mulf (broadcastInDim S80 ![] bcast_S_S80 (constant S_ FTy.f32 1073741824#32))
                  (sitofp FTy.f32 (iotaInDim S80 32 0))))
              (broadcastInDim S80 ![] bcast_S_S80 (constant S_ FTy.f32 1126170624#32)))))))

/-- A table laid out four heads wide from its two half-heads. -/
def tab {F : FTy → Type} [FloatOps F] (x y : Vec F S6144x80 .f32) : Vec F S6144x640 .f32 :=
  shapeCast S6144x640
    (broadcastInDim S1x6144x4x160 ![0, 1, 2, 3] bcast_S1x6144x1x160_S1x6144x4x160_0_1_2_3
      (shapeCast S1x6144x1x160
        (concatenate S6144x160 1 [⟨S6144x80, x⟩, ⟨S6144x80, y⟩] concatenates_S6144x80_S6144x80_S6144x160_d1)
        shapeCasts_S6144x160_S1x6144x1x160))
    shapeCasts_S1x6144x4x160_S6144x640

/-- The scales repeated over the 128 columns of their group. -/
def repScale {F : FTy → Type} [FloatOps F] (s : Vec F S128x140 .f32) : Vec F S128x17920 .bf16 :=
  truncf .bf16 (shapeCast S128x17920 (broadcastInDim S128x140x128 ![0, 1] bcast_S128x140_S128x140x128_0_1 s) shapeCasts_S128x140x128_S128x17920) bitsLt_bf16_f32

/-- The angles, their first two axes joined. -/
def flat {F : FTy → Type} [FloatOps F] (a : Vec F S3x2048x80 .f32) : Vec F S6144x80 .f32 := shapeCast S6144x80 a shapeCasts_S3x2048x80_S6144x80

section
variable {F : FTy → Type} [FloatOps F]
variable (m : (ℓ : Loc nD τ sig) → Buf (Elt F) ℓ)

theorem V_scale (c : Dev nD) : (V m c main_v37 : Vec F S128x17920 .bf16) = repScale (m ((c : Thread nD τ).loc main_arg2)) := by
  unfold V
  after_results
  rfl

theorem V_cos (c : Dev nD) : (V m c main_v29 : Vec F S6144x640 .f32)
    = tab (Host.cos (flat (angles (m ((c : Thread nD τ).loc main_arg3)))))
        (Host.cos (flat (angles (m ((c : Thread nD τ).loc main_arg3))))) := by
  unfold V
  after_results
  rfl

theorem V_sin (c : Dev nD) : (V m c main_v34 : Vec F S6144x640 .f32)
    = tab (Host.negf (Host.sin (flat (angles (m ((c : Thread nD τ).loc main_arg3))))))
        (Host.sin (flat (angles (m ((c : Thread nD τ).loc main_arg3))))) := by
  unfold V
  after_results
  rfl

end

/-- The repeated scales at an index. -/
theorem repScale_apply (s : Vec Ideal S128x140 .f32) (g : Fin 128) (n : Fin 17920) :
    (repScale s (ix2 g n) : EReal) = s (ix2 g ⟨n.val / 128, by omega⟩) := by
  pointwise [repScale]

/-- A table at an index. -/
theorem tab_apply (x y : Vec Ideal S6144x80 .f32) (r : Fin 6144) (l : Fin 640) :
    (tab x y (ix2 r l) : EReal) = if l.val % 160 < 80 then x (ix2 r ⟨l.val % 80, by omega⟩) else y (ix2 r ⟨l.val % 80, by omega⟩) := by
  pointwise [tab]
  by_cases h : l.val % 160 < 80
  · rw [dif_pos h, if_pos h]
    exact congrArg (fun d => x (ix2 r d)) (Fin.ext (by simp only []; omega))
  · rw [dif_neg h, if_neg h]
    exact congrArg (fun d => y (ix2 r d)) (Fin.ext (by simp only []; omega))

/-- The cosines of the joined angles at an index. -/
theorem cosA_apply (a : Vec Ideal S3x2048x80 .f32) (r : Fin 6144) (d : Fin 80) :
    ((Host.cos (flat a) : Vec Ideal S6144x80 .f32) (ix2 r d) : EReal) = Ideal.cos (a (ix3 ⟨r.val / 2048, by omega⟩ ⟨r.val % 2048, by omega⟩ d)) := by
  pointwise [flat]

/-- The sines. -/
theorem sinA_apply (a : Vec Ideal S3x2048x80 .f32) (r : Fin 6144) (d : Fin 80) :
    ((Host.sin (flat a) : Vec Ideal S6144x80 .f32) (ix2 r d) : EReal) = Ideal.sin (a (ix3 ⟨r.val / 2048, by omega⟩ ⟨r.val % 2048, by omega⟩ d)) := by
  pointwise [flat]

/-- Their negatives. -/
theorem negSinA_apply (a : Vec Ideal S3x2048x80 .f32) (r : Fin 6144) (d : Fin 80) :
    ((Host.negf (Host.sin (flat a) : Vec Ideal S6144x80 .f32) : Vec Ideal S6144x80 .f32) (ix2 r d) : EReal)
      = -Ideal.sin (a (ix3 ⟨r.val / 2048, by omega⟩ ⟨r.val % 2048, by omega⟩ d)) := by
  pointwise [flat]

end Cert.KernelIdeal.Body

end
-- ==== Proof.AccSum.lean ====
/-
  The partial sum after a column block's last reduction step is the projection.
-/
module

public import proofs.«01_k».proof.Proof.BlockAcc
public import proofs.«01_k».proof.Proof.HostVals
public import proofs.«01_k».proof.Proof.Spec
public import Idealize.ShloMosaic.Lib.Pipeline.ValueKit.Acc

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-- The activations, weights, scales and angles as launched. -/
abbrev Xa (c : Dev nD) : Vec Ideal S6144x16384 .bf16 := m ((c : Thread nD τ).loc main_arg0)
abbrev Wa (c : Dev nD) : Vec Ideal S16384x17920 .fp8e4m3 := m ((c : Thread nD τ).loc main_arg1)
abbrev Sa (c : Dev nD) : Vec Ideal S128x140 .f32 := m ((c : Thread nD τ).loc main_arg2)
abbrev Aa (c : Dev nD) : Vec Ideal S3x2048x80 .f32 := angles (m ((c : Thread nD τ).loc main_arg3))

/-- What the point `t` adds to the partial sum. -/
def part (c : Dev nD) (t : Fin cfg0.N) (y : S1024x1280.Idx) : EReal :=
  ∑ k : Fin 2048, Xa m c (ix2 (grow t (y 0)) (gred t k)) * (Wa m c (ix2 (gred t k) (gcol t (y 1)))
    * Sa m c (ix2 ⟨(gred t k).val / 128, by have := (gred t k).isLt; omega⟩ ⟨(gcol t (y 1)).val / 128, by have := (gcol t (y 1)).isLt; omega⟩))

theorem scale_apply (c : Dev nD) (t : Fin cfg0.N) (k : Fin 2048) (j : Fin 1280) :
    ((iblk m c 2 t : Vec Ideal S16x1280 .bf16) (ix2 ⟨k.val / 128, by omega⟩ j) : EReal)
      = Sa m c (ix2 ⟨(gred t k).val / 128, by have := (gred t k).isLt; omega⟩ ⟨(gcol t j).val / 128, by have := (gcol t j).isLt; omega⟩) := by
  rw [iblk2_apply, V_scale, repScale_apply]
  exact congrArg (fun g => Sa m c (ix2 g _)) (Fin.ext (by simp only [gsc, gred]; omega))

theorem step_apply (c : Dev nD) (t : Fin cfg0.N) (xs : Vec Ideal S1024x1280 .f32) (y : S1024x1280.Idx) :
    (accStep (iblk m c 0 t) (iblk m c 1 t) (iblk m c 2 t) xs y : EReal) = xs y + part m c t y := by
  obtain ⟨i, j, rfl⟩ : ∃ (i : Fin 1024) (j : Fin 1280), y = ix2 i j := ⟨y 0, y 1, eq_ix2 y⟩
  refine (accStep_apply (iblk m c 0 t) (iblk m c 1 t) (iblk m c 2 t) xs i j).trans ?_
  refine congrArg (fun z : EReal => xs (ix2 i j) + z) (Finset.sum_congr rfl fun k _ => ?_)
  rw [iblk0_apply, iblk1_apply, scale_apply, V_main_arg0, V_main_arg1]
  rfl

/-- The partial sum after the last of the eight reduction steps. -/
theorem acc_last (c : Dev nD) (t : Fin cfg0.N) (h7 : t.val % 8 = 7) (i : Fin 1024) (j : Fin 1280) :
    (accAt m c t (ix2 i j) : EReal) = proj (Xa m c) (Wa m c) (Sa m c) (grow t i) (gcol t j) := by
  have h := Pipeline.eq_sum_fin_of_reset_step_apply_of_flush (M := EReal) (fun n h (y : S1024x1280.Idx) => (acc m c n h y : EReal)) 8 (fun _ => 0) (part m c)
    (fun t h y => by
      rw [acc_reset m c t.val t.isLt h]
      refine (step_apply m c t _ y).trans ?_
      rw [eq_ix2 y]
      exact congrArg (fun z : EReal => z + part m c t (ix2 (y 0) (y 1))) (zero_apply (y 0) (y 1)))
    (fun t h y => by
      rw [acc_step m c t.val t.isLt h]
      exact step_apply m c t _ y) t h7 (ix2 i j)
  refine h.trans ?_
  rw [zero_add]
  refine Fin.sum_mul_add_congr fun s k hl => ?_
  have e : gred ⟨8 * (t.val / 8) + s.val, Pipeline.run_point_lt_of_flush t h7 s⟩ k = ⟨s.val * 2048 + k.val, hl⟩ := Fin.ext (by simp only [gred]; omega)
  have er : grow ⟨8 * (t.val / 8) + s.val, Pipeline.run_point_lt_of_flush t h7 s⟩ i = grow t i := Fin.ext (by simp only [grow]; omega)
  have ec : gcol ⟨8 * (t.val / 8) + s.val, Pipeline.run_point_lt_of_flush t h7 s⟩ j = gcol t j := Fin.ext (by simp only [gcol]; omega)
  generalize (⟨8 * (t.val / 8) + s.val, Pipeline.run_point_lt_of_flush t h7 s⟩ : Fin cfg0.N) = t' at e er ec ⊢
  show Xa m c (ix2 (grow t' i) (gred t' k)) * (Wa m c (ix2 (gred t' k) (gcol t' j))
    * Sa m c (ix2 ⟨(gred t' k).val / 128, _⟩ ⟨(gcol t' j).val / 128, _⟩)) = _
  simp only [e, er, ec]

end Cert.KernelIdeal.Body

end
-- ==== Proof.BlockRope.lean ====
/-
  The rotated block and the value block, read at an index.
-/
module

public import proofs.«01_k».proof.Proof.Blocks
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The lane a lane is paired with by the rotation: within each head's 160 lanes the two halves trade places. -/
def partner (j : Fin 1280) : Fin 1280 := ⟨if j.val % 160 < 80 then j.val + 80 else j.val - 80, by have := j.isLt; split <;> omega⟩

/-- The column of the 640-lane tables a lane reads. -/
def tcol (j : Fin 1280) : Fin 640 := ⟨j.val % 640, by omega⟩

/-- The test the body makes on a lane number: its remainder by 160, made non-negative, below 80. -/
abbrev laneBit (n : ℕ) : BitVec 1 :=
  IntOp.cmpi CmpIPredicate.slt
    (Scalar.select
      (IntOp.andi
        (IntOp.xori
          (IntOp.cmpi CmpIPredicate.slt
            (IntOp.remsi ArithUnit.vector (BitVec.ofNat 32 n)
              (Scalar.select (Scalar.cmpi CmpIPredicate.eq 160#32 0#32) 1#32 160#32))
            0#32)
          (Scalar.cmpi CmpIPredicate.slt (Scalar.select (Scalar.cmpi CmpIPredicate.eq 160#32 0#32) 1#32 160#32)
            0#32))
        (IntOp.cmpi CmpIPredicate.ne
          (IntOp.remsi ArithUnit.vector (BitVec.ofNat 32 n)
            (Scalar.select (Scalar.cmpi CmpIPredicate.eq 160#32 0#32) 1#32 160#32))
          0#32))
      (IntOp.addi
        (IntOp.remsi ArithUnit.vector (BitVec.ofNat 32 n)
          (Scalar.select (Scalar.cmpi CmpIPredicate.eq 160#32 0#32) 1#32 160#32))
        (Scalar.select (Scalar.cmpi CmpIPredicate.eq 160#32 0#32) 1#32 160#32))
      (IntOp.remsi ArithUnit.vector (BitVec.ofNat 32 n)
        (Scalar.select (Scalar.cmpi CmpIPredicate.eq 160#32 0#32) 1#32 160#32)))
    80#32

theorem laneBit_eq : ∀ j : Fin 1280, laneBit j.val = BitVec.ofBool (decide (j.val % 160 < 80)) := by
  decide +kernel

/-- One group of rotated rows at an index. -/
theorem rows_apply (y : Vec Ideal S128x1280 .f32) (a b : Vec Ideal S128x640 .f32) (i : Fin 128) (j : Fin 1280) :
    k0_pay2 y a b (ix2 i j) = (y (ix2 i j) * a (ix2 i (tcol j)) + y (ix2 i (partner j)) * b (ix2 i (tcol j)) : EReal) := by
  have hj := j.isLt
  have ha : ∀ a : Vec Ideal S128x640 .f32, (if h : j.val < 640 then a (ix2 i ⟨j.val, h⟩) else a (ix2 i ⟨j.val - 640, by omega⟩)) = a (ix2 i (tcol j)) := fun a => by
    split
    · exact congrArg (fun l => a (ix2 i l)) (Fin.ext (by simp only [tcol]; omega))
    · exact congrArg (fun l => a (ix2 i l)) (Fin.ext (by simp only [tcol]; omega))
  have hs : Scalar.select (laneBit j.val) (y (ix2 i ⟨(j.val + 1280 - 1200) % 1280, by omega⟩)) (y (ix2 i ⟨(j.val + 1280 - 80) % 1280, by omega⟩))
      = y (ix2 i (partner j)) := by
    rw [laneBit_eq]
    by_cases h : j.val % 160 < 80
    · rw [decide_eq_true h]
      exact congrArg (fun l => y (ix2 i l)) (Fin.ext (by simp only [partner, if_pos h]; omega))
    · rw [decide_eq_false h]
      exact congrArg (fun l => y (ix2 i l)) (Fin.ext (by simp only [partner, if_neg h]; omega))
  pointwise [k0_pay2]
  rw [hs, ha a, ha b]

/-- A group of 128 rotated rows, starting at row `o`, at an index inside the block. -/
theorem rows_at (y : Vec Ideal S1024x1280 .f32) (a b : Vec Ideal S1024x640 .f32) (o : ℕ) (i1 i2 i3) (x : S128x1280.Idx)
    (r : Fin 1024) (j : Fin 1280) (h0 : r.val = o + (x 0).val) (h1 : j.val = (x 1).val) :
    k0_pay2 (View.ld y (Rect.unit ![o, 0] S128x1280.size i1)) (View.ld a (Rect.unit ![o, 0] S128x640.size i2))
      (View.ld b (Rect.unit ![o, 0] S128x640.size i3)) x
      = (y (ix2 r j) * a (ix2 r (tcol j)) + y (ix2 r (partner j)) * b (ix2 r (tcol j)) : EReal) := by
  obtain ⟨i, j', rfl⟩ : ∃ (i : Fin 128) (j' : Fin 1280), x = ix2 i j' := ⟨x 0, x 1, eq_ix2 x⟩
  obtain rfl : j = j' := Fin.ext h1
  have hr : r.val = o + i.val := h0
  have ey : ∀ l : Fin 1280, View.ld y (Rect.unit ![o, 0] S128x1280.size i1) (ix2 i l) = y (ix2 r l) := fun l =>
    View.ld_unit_apply_of y _ _ i1 _ _ (Fin.forall_fin_two.mpr ⟨hr, (Nat.zero_add _).symm⟩)
  have ea : ∀ l : Fin 640, View.ld a (Rect.unit ![o, 0] S128x640.size i2) (ix2 i l) = a (ix2 r l) := fun l =>
    View.ld_unit_apply_of a _ _ i2 _ _ (Fin.forall_fin_two.mpr ⟨hr, (Nat.zero_add _).symm⟩)
  have eb : ∀ l : Fin 640, View.ld b (Rect.unit ![o, 0] S128x640.size i3) (ix2 i l) = b (ix2 r l) := fun l =>
    View.ld_unit_apply_of b _ _ i3 _ _ (Fin.forall_fin_two.mpr ⟨hr, (Nat.zero_add _).symm⟩)
  refine (rows_apply _ _ _ i j).trans ?_
  rw [ey, ey, ea, eb]

/-- The rotated block at an index. -/
theorem ropeBlock_apply (y : Vec Ideal S1024x1280 .f32) (a b : Vec Ideal S1024x640 .f32) (r : Fin 1024) (j : Fin 1280) :
    ropeBlock y a b (ix2 r j) = (y (ix2 r j) * a (ix2 r (tcol j)) + y (ix2 r (partner j)) * b (ix2 r (tcol j)) : EReal) := by
  unfold ropeBlock ropePieces
  canon_tiles x h using (ropePieces_cover y a b (ix2 r j))
  · exact rows_at y a b 896 _ _ _ x r j h0 h1
  · exact rows_at y a b 768 _ _ _ x r j h0 h1
  · exact rows_at y a b 640 _ _ _ x r j h0 h1
  · exact rows_at y a b 512 _ _ _ x r j h0 h1
  · exact rows_at y a b 384 _ _ _ x r j h0 h1
  · exact rows_at y a b 256 _ _ _ x r j h0 h1
  · exact rows_at y a b 128 _ _ _ x r j h0 h1
  · exact rows_at y a b 0 _ _ _ x r j (h0.trans (Nat.zero_add _).symm) h1

/-- A group of 128 rows of the value block, starting at row `o`, at an index inside the block. -/
theorem cast_at (y : Vec Ideal S1024x1280 .f32) (o : ℕ) (i1) (x : S128x1280.Idx)
    (r : Fin 1024) (j : Fin 1280) (h0 : r.val = o + (x 0).val) (h1 : j.val = (x 1).val) :
    k0_pay46 (View.ld y (Rect.unit ![o, 0] S128x1280.size i1)) x = (y (ix2 r j) : EReal) := by
  obtain ⟨i, j', rfl⟩ : ∃ (i : Fin 128) (j' : Fin 1280), x = ix2 i j' := ⟨x 0, x 1, eq_ix2 x⟩
  obtain rfl : j = j' := Fin.ext h1
  have hr : r.val = o + i.val := h0
  exact View.ld_unit_apply_of y _ _ i1 _ _ (Fin.forall_fin_two.mpr ⟨hr, (Nat.zero_add _).symm⟩)

/-- The value block at an index. -/
theorem castBlock_apply (y : Vec Ideal S1024x1280 .f32) (r : Fin 1024) (j : Fin 1280) :
    castBlock y (ix2 r j) = (y (ix2 r j) : EReal) := by
  unfold castBlock castPieces
  canon_tiles x h using (castPieces_cover y (ix2 r j))
  · exact cast_at y 896 _ x r j h0 h1
  · exact cast_at y 768 _ x r j h0 h1
  · exact cast_at y 640 _ x r j h0 h1
  · exact cast_at y 512 _ x r j h0 h1
  · exact cast_at y 384 _ x r j h0 h1
  · exact cast_at y 256 _ x r j h0 h1
  · exact cast_at y 128 _ x r j h0 h1
  · exact cast_at y 0 _ x r j (h0.trans (Nat.zero_add _).symm) h1

end Cert.KernelIdeal.Body

end
-- ==== Proof.OutVals.lean ====
/-
  The blocks the pipeline writes back, read at an index: rotated projections for queries and keys, the projection for
  values.
-/
module

public import proofs.«01_k».proof.Proof.AccSum
public import proofs.«01_k».proof.Proof.BlockRope

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-- The cosine table at a row and a lane's column. -/
theorem cos_at (c : Dev nD) (p : Fin cfg0.N) (i : Fin 1024) (j : Fin 1280) :
    ((iblk m c 3 p : Vec Ideal S1024x640 .f32) (ix2 i (tcol j)) : EReal) = Ideal.cos (ang (Aa m c) (grow p i) (gcol p j)) := by
  rw [iblk3_apply, V_cos, tab_apply, ite_self, cosA_apply]
  exact congrArg (fun d => Ideal.cos (Aa m c (ix3 _ _ d))) (Fin.ext (by simp only [tcol, gcol]; omega))

/-- The sine table: negated on the first half of each head. -/
theorem sin_at (c : Dev nD) (p : Fin cfg0.N) (i : Fin 1024) (j : Fin 1280) :
    ((iblk m c 4 p : Vec Ideal S1024x640 .f32) (ix2 i (tcol j)) : EReal)
      = if j.val % 160 < 80 then -Ideal.sin (ang (Aa m c) (grow p i) (gcol p j)) else Ideal.sin (ang (Aa m c) (grow p i) (gcol p j)) := by
  rw [iblk4_apply, V_sin, tab_apply, negSinA_apply, sinA_apply]
  have h : (tcol j).val % 160 = j.val % 160 := by simp only [tcol]; omega
  have e : (⟨(tcol j).val % 80, by omega⟩ : Fin 80) = ⟨(gcol p j).val % 80, by omega⟩ := Fin.ext (by simp only [tcol, gcol]; omega)
  rw [h, e]
  rfl

/-- A rotated block after a column block's last reduction step. -/
theorem rope_value (c : Dev nD) (p : Fin cfg0.N) (h7 : p.val % 8 = 7) (i : Fin 1024) (j : Fin 1280) :
    (ropeBlock (accAt m c p) (iblk m c 3 p) (iblk m c 4 p) (ix2 i j) : EReal)
      = rotProj (Xa m c) (Wa m c) (Sa m c) (Aa m c) (grow p i) (gcol p j) := by
  refine (ropeBlock_apply (accAt m c p) (iblk m c 3 p) (iblk m c 4 p) i j).trans ?_
  rw [acc_last m c p h7, acc_last m c p h7, cos_at, sin_at]
  have hg : (gcol p j).val % 160 = j.val % 160 := by simp only [gcol]; omega
  unfold rotProj rot
  by_cases h : j.val % 160 < 80
  · rw [if_pos h, dif_pos (hg ▸ h), mul_neg, sub_eq_add_neg,
      show gcol p (partner j) = ⟨(gcol p j).val + 80, by have := (gcol p j).isLt; omega⟩ from Fin.ext (by simp only [gcol, partner, if_pos h]; omega)]
  · rw [if_neg h, dif_neg (hg ▸ h),
      show gcol p (partner j) = ⟨(gcol p j).val - 80, by have := (gcol p j).isLt; omega⟩ from Fin.ext (by simp only [gcol, partner, if_neg h]; omega)]

/-- The value block. -/
theorem cast_value (c : Dev nD) (p : Fin cfg0.N) (h7 : p.val % 8 = 7) (i : Fin 1024) (j : Fin 1280) :
    (castBlock (accAt m c p) (ix2 i j) : EReal) = proj (Xa m c) (Wa m c) (Sa m c) (grow p i) (gcol p j) :=
  (castBlock_apply (accAt m c p) i j).trans (acc_last m c p h7 i j)

end Cert.KernelIdeal.Body

end
-- ==== Proof.RunA.lean ====
/-
  The run of the whole kernel body at a reset point (the reduction coordinate is 0): the accumulator is zeroed, then the first product is added. The other outputs' buffers are handed back as they were.
-/
module

public import proofs.«01_k».proof.Proof.Runs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's run in case A, with the pieces its stores leave as the witness. -/
noncomputable def runA (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) :
    { L : List (View.Piece (Elt F) S1024x1280 .f32) //
      ∀ (y8 y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ f, arg11.view.loc (c : Thread nD τ) ↦[arg11.view.set]{fullShare} arg11.view.writes (Elt F) f L)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨?_, fun y8 y9 y10 E K => ?run⟩
  case run =>
    simp only [cc0_proj_eq_skeleton]; unfold cc0_proj_skel
    simp only [k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; iexact HS

end Cert.KernelIdeal.Body

end
-- ==== Proof.ValsA.lean ====
/-
  What the run of case A (RunA.lean) stores, in terms of the block functions.
-/
module

public import proofs.«01_k».proof.Proof.Blocks
public import proofs.«01_k».proof.Proof.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- What the run leaves in the partial sum: one reduction step more. -/
theorem runA_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) :
    View.canon (runA c i arg3 harg3 arg4 harg4 arg5 harg5 arg6 harg6 arg7 harg7 arg8 harg8 arg9 harg9 arg10 harg10 arg11 harg11 hc0 hc1 hc2 hc3 x0 x1 x2 x3 x4).1 = accStep x0 x1 x2 k0_pay54 := by
  unfold runA; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runA_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) :
    ∀ y, ∃ p ∈ (runA c i arg3 harg3 arg4 harg4 arg5 harg5 arg6 harg6 arg7 harg7 arg8 harg8 arg9 harg9 arg10 harg10 arg11 harg11 hc0 hc1 hc2 hc3 x0 x1 x2 x3 x4).1, y ∈ p.1.set := by
  unfold runA; dsimp only
  exact fun y => ⟨_, List.mem_cons_self, whole_mem inb_S1024x1280_S1024x1280_0_0 y⟩

end Cert.KernelIdeal.Body

end
-- ==== Proof.RunB.lean ====
/-
  The run of the whole kernel body at a plain accumulation point: one product is added to the accumulator. The other outputs' buffers are handed back as they were.
-/
module

public import proofs.«01_k».proof.Proof.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's run in case B, with the pieces its stores leave as the witness. -/
noncomputable def runB (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .f32) //
      ∀ (y8 y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ f, arg11.view.loc (c : Thread nD τ) ↦[arg11.view.set]{fullShare} arg11.view.writes (Elt F) f L)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨?_, fun y8 y9 y10 E K => ?run⟩
  case run =>
    simp only [cc0_proj_eq_skeleton]; unfold cc0_proj_skel
    simp only [k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; iexact HS

end Cert.KernelIdeal.Body

end
-- ==== Proof.ValsB.lean ====
/-
  What the run of case B (RunB.lean) stores, in terms of the block functions.
-/
module

public import proofs.«01_k».proof.Proof.Blocks
public import proofs.«01_k».proof.Proof.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- What the run leaves in the partial sum: one reduction step more. -/
theorem runB_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runB c i arg3 harg3 arg4 harg4 arg5 harg5 arg6 harg6 arg7 harg7 arg8 harg8 arg9 harg9 arg10 harg10 arg11 harg11 hc0 hc1 hc2 hc3 x0 x1 x2 x3 x4 xs).1 = accStep x0 x1 x2 xs := by
  unfold runB; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runB_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runB c i arg3 harg3 arg4 harg4 arg5 harg5 arg6 harg6 arg7 harg7 arg8 harg8 arg9 harg9 arg10 harg10 arg11 harg11 hc0 hc1 hc2 hc3 x0 x1 x2 x3 x4 xs).1, y ∈ p.1.set := by
  unfold runB; dsimp only
  exact fun y => ⟨_, List.mem_cons_self, whole_mem inb_S1024x1280_S1024x1280_0_0 y⟩

end Cert.KernelIdeal.Body

end
-- ==== Proof.RunC.lean ====
/-
  The run of the whole kernel body at the last reduction step of a query column block: one product is added, then the rotated rows are stored into the query output. The other outputs' buffers are handed back as they were.
-/
module

public import proofs.«01_k».proof.Proof.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's run in case C, with the pieces its stores leave as the witness. -/
noncomputable def runC (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y9 ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L.1) ∗ owns (c : Thread nD τ) arg9 fullShare y9 ∗ owns (c : Thread nD τ) arg10 fullShare y10 ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y9 y10 E K => ?run⟩
  case run =>
    dsimp only
    simp only [cc0_proj_eq_skeleton]; unfold cc0_proj_skel
    simp only [k0_part16_eq_skeleton, k0_part17_eq_skeleton, k0_part18_eq_skeleton, k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [H6]
    · iexists _; isplitr; · ipureintro; exact hf6
      iexact H6
    isplitl [H7]
    · iexists _; isplitr; · ipureintro; exact hf7
      iexact H7
    iexists _; iexact HS

end Cert.KernelIdeal.Body

end
-- ==== Proof.ValsC.lean ====
/-
  What the run of case C (RunC.lean) stores, in terms of the block functions.
-/
module

public import proofs.«01_k».proof.Proof.Blocks
public import proofs.«01_k».proof.Proof.RunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- What the run leaves in the partial sum: one reduction step more. -/
theorem runC_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runC c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runC; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runC_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runC c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runC; dsimp only
  exact fun y => ⟨_, List.mem_cons_self, whole_mem inb_S1024x1280_S1024x1280_0_0 y⟩

/-- The pieces the run stores its output block in. -/
theorem runC_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    (runC c i arg3 harg3 arg4 harg4 arg5 harg5 arg6 harg6 arg7 harg7 arg8 harg8 arg9 harg9 arg10 harg10 arg11 harg11 hc0 hc1 hc2 hc3 x0 x1 x2 x3 x4 xs).1.1 = ropePieces (accStep x0 x1 x2 xs) x3 x4 := by
  unfold runC; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.KernelIdeal.Body

end
-- ==== Proof.RunD.lean ====
/-
  The run of the whole kernel body at the last reduction step of the key column block: one product is added, then the rotated rows are stored into the key output. The other outputs' buffers are handed back as they were.
-/
module

public import proofs.«01_k».proof.Proof.RunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's run in case D, with the pieces its stores leave as the witness. -/
noncomputable def runD (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y8 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ (∃ d, owns (c : Thread nD τ) arg9 fullShare d) ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ (∃ f, arg9.view.loc (c : Thread nD τ) ↦[arg9.view.set]{fullShare} arg9.view.writes (Elt F) f L.1) ∗ owns (c : Thread nD τ) arg10 fullShare y10 ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y8 y10 E K => ?run⟩
  case run =>
    dsimp only
    simp only [cc0_proj_eq_skeleton]; unfold cc0_proj_skel
    simp only [k0_part16_eq_skeleton, k0_part17_eq_skeleton, k0_part18_eq_skeleton, k0_part14_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; iexact H6
    isplitl [H7]
    · iexists _; isplitr; · ipureintro; exact hf7
      iexact H7
    iexists _; iexact HS

end Cert.KernelIdeal.Body

end
-- ==== Proof.ValsD.lean ====
/-
  What the run of case D (RunD.lean) stores, in terms of the block functions.
-/
module

public import proofs.«01_k».proof.Proof.Blocks
public import proofs.«01_k».proof.Proof.RunD

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- What the run leaves in the partial sum: one reduction step more. -/
theorem runD_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runD c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runD; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runD_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runD c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runD; dsimp only
  exact fun y => ⟨_, List.mem_cons_self, whole_mem inb_S1024x1280_S1024x1280_0_0 y⟩

/-- The pieces the run stores its output block in. -/
theorem runD_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    (runD c i arg3 harg3 arg4 harg4 arg5 harg5 arg6 harg6 arg7 harg7 arg8 harg8 arg9 harg9 arg10 harg10 arg11 harg11 hc0 hc1 hc2 hc3 x0 x1 x2 x3 x4 xs).1.1 = ropePieces (accStep x0 x1 x2 xs) x3 x4 := by
  unfold runD; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.KernelIdeal.Body

end
-- ==== Proof.RunE.lean ====
/-
  The run of the whole kernel body at the last reduction step of the value column block: one product is added, then the rows are stored into the value output. The other outputs' buffers are handed back as they were.
-/
module

public import proofs.«01_k».proof.Proof.RunD

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's run in case E, with the pieces its stores leave as the witness. -/
noncomputable def runE (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y8 y9 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y8 y9 E K => ?run⟩
  case run =>
    dsimp only
    simp only [cc0_proj_eq_skeleton]; unfold cc0_proj_skel
    simp only [k0_part16_eq_skeleton, k0_part17_eq_skeleton, k0_part18_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; iexact H7
    iexists _; iexact HS

end Cert.KernelIdeal.Body

end
-- ==== Proof.ValsE.lean ====
/-
  What the run of case E (RunE.lean) stores, in terms of the block functions.
-/
module

public import proofs.«01_k».proof.Proof.Blocks
public import proofs.«01_k».proof.Proof.RunE

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- What the run leaves in the partial sum: one reduction step more. -/
theorem runE_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runE c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runE; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runE_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runE c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runE; dsimp only
  exact fun y => ⟨_, List.mem_cons_self, whole_mem inb_S1024x1280_S1024x1280_0_0 y⟩

/-- The pieces the run stores its output block in. -/
theorem runE_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    (runE c i arg3 harg3 arg4 harg4 arg5 harg5 arg6 harg6 arg7 harg7 arg8 harg8 arg9 harg9 arg10 harg10 arg11 harg11 hc0 hc1 hc2 hc3 x0 x1 x2 x3 x4 xs).1.1 = castPieces (accStep x0 x1 x2 xs) := by
  unfold runE; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.KernelIdeal.Body

end
-- ==== Proof.Body.lean ====
/-
  The body at every grid point, case by case, against the proof data of Data.lean.
-/
module

public import Idealize.ShloMosaic.Lib.Claim
public import proofs.«01_k».proof.Proof.ValsA
public import proofs.«01_k».proof.Proof.ValsB
public import proofs.«01_k».proof.Proof.ValsC
public import proofs.«01_k».proof.Proof.ValsD
public import proofs.«01_k».proof.Proof.ValsE
public import proofs.«01_k».proof.Proof.Data

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at the point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val (le_of_lt t.isLt) := by
  dsimp only [dats, Fin.val_castSucc]
theorem Phi_succ (c : Dev nD) (t : Fin cfg0.N) :
    (dats m 0 c).Φ t.succ = (iprop(owns (c : Thread nD τ) scM0_0 fullShare (accAt m c t) ∗ (∃ r, prngReg c r)) : sProp 𝕄) := by
  dsimp only [dats, Fin.val_succ, PhiS]

/-- At the first reduction step of a column block. -/
theorem bodyA (c : Dev nD) (t : Fin cfg0.N) (hc0 : cond0_0 (grid0.coords t)) (hc1 : ¬cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 = 0 := (hcond0_0 t).mp hc0
  rw [Phi_castSucc, Phi_succ, after0_0, after0_1, after0_2, after0_3, after0_4,
    show (dats m 0 c).owesAt () t.succ = (dats m 0 c).owesAt () t.castSucc from rfl]
  rw [show accAt m c t = _ from acc_reset m c t.val t.isLt h8]
  iintro ⟨HΦ, Ho,  ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := (PhiS_some m c t.val _) $$ HΦ
  icases HΦ' with ⟨HS, Hr⟩

  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t)).2 ((dats m 0 c).before 5 t d5) ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, ⟨%fS, HS⟩⟩
  isplitl [HS Hr]
  · isplitl [HS]
    · unfold owns; iexists _; isplitr
      swap; · iexact HS
      ipureintro
      refine (View.read_writes_eq_canon _ _ _ (runA_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t))).trans ?_
      exact runA_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t)
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (keep7 m c t hc3 d7); iexact H7

/-- At a reduction step that stores no output. -/
theorem bodyB (c : Dev nD) (t : Fin cfg0.N) (hc0 : ¬cond0_0 (grid0.coords t)) (hc1 : ¬cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, ⟨%fS, HS⟩⟩
  isplitl [HS Hr]
  · isplitl [HS]
    · unfold owns; iexists _; isplitr
      swap; · iexact HS
      ipureintro
      refine (View.read_writes_eq_canon _ _ _ (runB_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runB_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (keep7 m c t hc3 d7); iexact H7

/-- At the last reduction step of a query column block. -/
theorem bodyC (c : Dev nD) (t : Fin cfg0.N) (hc0 : ¬cond0_0 (grid0.coords t)) (hc1 : cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS]; · iexact HS
  iintro ⟨H0, H1, H2, H3, H4, ⟨%f5, H5⟩, H6, H7, ⟨%fS, HS⟩⟩
  isplitl [HS Hr]
  · isplitl [HS]
    · unfold owns; iexists _; isplitr
      swap; · iexact HS
      ipureintro
      refine (View.read_writes_eq_canon _ _ _ (runC_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runC_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (put5 m c t hc1); unfold owns; iexists _; isplitr
    swap; · iexact H5
    ipureintro
    rw [runC_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
    rw [show accAt m c t = _ from acc_step m c t.val t.isLt h8]
    exact View.read_writes_eq_canon _ _ _ (ropePieces_cover _ _ _)
  isplitl [H6]
  · iapply (keep6 m c t hc2 d6); iexact H6
  iapply (keep7 m c t hc3 d7); iexact H7

/-- At the last reduction step of the key column block. -/
theorem bodyD (c : Dev nD) (t : Fin cfg0.N) (hc0 : ¬cond0_0 (grid0.coords t)) (hc1 : ¬cond0_1 (grid0.coords t)) (hc2 : cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, ⟨%f6, H6⟩, H7, ⟨%fS, HS⟩⟩
  isplitl [HS Hr]
  · isplitl [HS]
    · unfold owns; iexists _; isplitr
      swap; · iexact HS
      ipureintro
      refine (View.read_writes_eq_canon _ _ _ (runD_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runD_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (put6 m c t hc2); unfold owns; iexists _; isplitr
    swap; · iexact H6
    ipureintro
    rw [runD_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
    rw [show accAt m c t = _ from acc_step m c t.val t.isLt h8]
    exact View.read_writes_eq_canon _ _ _ (ropePieces_cover _ _ _)
  iapply (keep7 m c t hc3 d7); iexact H7

/-- At the last reduction step of the value column block. -/
theorem bodyE (c : Dev nD) (t : Fin cfg0.N) (hc0 : ¬cond0_0 (grid0.coords t)) (hc1 : ¬cond0_1 (grid0.coords t)) (hc2 : ¬cond0_2 (grid0.coords t)) (hc3 : cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%f7, H7⟩, ⟨%fS, HS⟩⟩
  isplitl [HS Hr]
  · isplitl [HS]
    · unfold owns; iexists _; isplitr
      swap; · iexact HS
      ipureintro
      refine (View.read_writes_eq_canon _ _ _ (runE_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runE_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (put7 m c t hc3); unfold owns; iexists _; isplitr
  swap; · iexact H7
  ipureintro
  rw [runE_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
  rw [show accAt m c t = _ from acc_step m c t.val t.isLt h8]
  exact View.read_writes_eq_canon _ _ _ (castPieces_cover _)

theorem sound_body (c : Dev nD) (t : Fin cfg0.N) :
    bodyPre m c t ⊢ wp frame (wpE (defs₀ (F := F)) Variants.none c none) Set.univ (bodyAt0 t) (fun _ => bodyPost m c t) := by
  have k0 := hcond0_0 t
  have k1 := hcond0_1 t
  have k2 := hcond0_2 t
  have k3 := hcond0_3 t
  by_cases h0 : cond0_0 (grid0.coords t)
  · have e0 := k0.mp h0
    exact bodyA m c t h0 (fun h => by have := k1.mp h; omega) (fun h => by have := k2.mp h; omega) (fun h => by have := k3.mp h; omega)
  by_cases h1 : cond0_1 (grid0.coords t)
  · have e1 := k1.mp h1
    exact bodyC m c t h0 h1 (fun h => by have := k2.mp h; omega) (fun h => by have := k3.mp h; omega)
  by_cases h2 : cond0_2 (grid0.coords t)
  · have e2 := k2.mp h2
    exact bodyD m c t h0 h1 h2 (fun h => by have := k3.mp h; omega)
  by_cases h3 : cond0_3 (grid0.coords t)
  · exact bodyE m c t h0 h1 h2 h3
  exact bodyB m c t h0 h1 h2 h3

/-- The body table's row at the point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [show (dats (F := F) m 0 c).Φ 0 = Pipeline.ΦA spec0 c from rfl]

theorem hout (c : Dev nD) : (dats (F := F) m 0 c).Φ (Fin.last cfg0.N) ⊢ Pipeline.ΦA spec0 c := by
  rw [PhiA0_eq]; exact (PhiS_some m c _ le_rfl : PhiS m c cfg0.N le_rfl ⊢ _)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program: every array of the pipeline ends at what the proof data give, every other buffer as
    the region found it. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Cert.KernelIdeal.Body

end
-- ==== Proof.Final.lean ====
/-
  The three arrays the kernel leaves: queries and keys rotated, values as projected.
-/
module

public import proofs.«01_k».proof.Proof.OutVals
public import proofs.«01_k».proof.Proof.Body
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- The queries. -/
def Gq (X : Vec Ideal S6144x16384 .bf16) (W : Vec Ideal S16384x17920 .fp8e4m3) (S : Vec Ideal S128x140 .f32) (A : Vec Ideal S3x2048x80 .f32) :
    Vec Ideal S6144x15360 .bf16 := fun y => rotProj X W S A (y 0) ⟨(y 1).val, by have : (y 1).val < 15360 := (y 1).isLt; omega⟩
/-- The keys. -/
def Gk (X : Vec Ideal S6144x16384 .bf16) (W : Vec Ideal S16384x17920 .fp8e4m3) (S : Vec Ideal S128x140 .f32) (A : Vec Ideal S3x2048x80 .f32) :
    Vec Ideal S6144x1280 .bf16 := fun y => rotProj X W S A (y 0) ⟨15360 + (y 1).val, by have : (y 1).val < 1280 := (y 1).isLt; omega⟩
/-- The values. -/
def Gv (X : Vec Ideal S6144x16384 .bf16) (W : Vec Ideal S16384x17920 .fp8e4m3) (S : Vec Ideal S128x140 .f32) :
    Vec Ideal S6144x1280 .bf16 := fun y => proj X W S (y 0) ⟨16640 + (y 1).val, by have : (y 1).val < 1280 := (y 1).isLt; omega⟩

theorem min11 : ∀ n : Fin 14, (Scalar.minsi (BitVec.ofNat 32 n.val) 11#32).toNat = min n.val 11 := by decide +kernel

theorem qcol_of (t : Fin cfg0.N) : (Scalar.minsi (BitVec.ofNat 32 (grid0.coords t 1).val) 11#32).toNat = min (t.val / 8 % 14) 11 := by
  have h := min11 ⟨t.val / 8 % 14, by omega⟩
  rw [coord1]; exact h

theorem ptQ_last (t : Fin cfg0.N) : (ptQ t).val % 8 = 7 := by simp only [ptQ]; omega
theorem ptK_last (t : Fin cfg0.N) : (ptK t).val % 8 = 7 := by simp only [ptK]; omega
theorem ptV_last (t : Fin cfg0.N) : (ptV t).val % 8 = 7 := by simp only [ptV]; omega

theorem flushed5 (c : Dev nD) (t : Fin cfg0.N) (hf : (cfg0.win 5).flush t = true) :
    (dats m 0 c).flushed 5 t = ((cfg0.win 5).blk t).view.read (Elt Ideal) (Gq (Xa m c) (Wa m c) (Sa m c) (Aa m c)) := by
  show (cfg0.win 5).cut (grid0.coords t) ((dats m 0 c).after 5 t) = _
  rw [after0_5]
  funext y
  rw [View.read_apply]
  obtain ⟨i, j, rfl⟩ : ∃ (i : Fin 1024) (j : Fin 1280), y = ix2 i j := ⟨y 0, y 1, eq_ix2 y⟩
  refine (rope_value m c (ptQ t) (ptQ_last t) i j).trans ?_
  show _ = rotProj (Xa m c) (Wa m c) (Sa m c) (Aa m c) _ _
  have hm := m_lt t
  congr 1
  · apply Fin.ext
    show (grow (ptQ t) i).val = (BitVec.ofNat 32 (grid0.coords t 0).val).toNat * 1024 + 1 * i.val
    rw [row_of]; simp only [grow, ptQ]; omega
  · apply Fin.ext
    show (gcol (ptQ t) j).val = (Scalar.minsi (BitVec.ofNat 32 (grid0.coords t 1).val) 11#32).toNat * 1280 + 1 * j.val
    rw [qcol_of]; simp only [gcol, ptQ]; omega

theorem flushed6 (c : Dev nD) (t : Fin cfg0.N) (hf : (cfg0.win 6).flush t = true) :
    (dats m 0 c).flushed 6 t = ((cfg0.win 6).blk t).view.read (Elt Ideal) (Gk (Xa m c) (Wa m c) (Sa m c) (Aa m c)) := by
  show (cfg0.win 6).cut (grid0.coords t) ((dats m 0 c).after 6 t) = _
  rw [after0_6]
  funext y
  rw [View.read_apply]
  obtain ⟨i, j, rfl⟩ : ∃ (i : Fin 1024) (j : Fin 1280), y = ix2 i j := ⟨y 0, y 1, eq_ix2 y⟩
  refine (rope_value m c (ptK t) (ptK_last t) i j).trans ?_
  show _ = rotProj (Xa m c) (Wa m c) (Sa m c) (Aa m c) _ _
  have hm := m_lt t
  congr 1
  · apply Fin.ext
    show (grow (ptK t) i).val = (BitVec.ofNat 32 (grid0.coords t 0).val).toNat * 1024 + 1 * i.val
    rw [row_of]; simp only [grow, ptK]; omega
  · apply Fin.ext
    show (gcol (ptK t) j).val = 15360 + (0 * 1280 + 1 * j.val)
    simp only [gcol, ptK]; omega

attribute [local irreducible] proj in
theorem flushed7 (c : Dev nD) (t : Fin cfg0.N) (hf : (cfg0.win 7).flush t = true) :
    (dats m 0 c).flushed 7 t = ((cfg0.win 7).blk t).view.read (Elt Ideal) (Gv (Xa m c) (Wa m c) (Sa m c)) := by
  show (cfg0.win 7).cut (grid0.coords t) ((dats m 0 c).after 7 t) = _
  rw [after0_7]
  funext y
  rw [View.read_apply]
  obtain ⟨i, j, rfl⟩ : ∃ (i : Fin 1024) (j : Fin 1280), y = ix2 i j := ⟨y 0, y 1, eq_ix2 y⟩
  refine (cast_value m c (ptV t) (ptV_last t) i j).trans ?_
  show _ = proj (Xa m c) (Wa m c) (Sa m c) _ _
  have hm := m_lt t
  refine congrArg₂ (proj (Xa m c) (Wa m c) (Sa m c)) (Fin.ext ?_) (Fin.ext ?_)
  · show (grow (ptV t) i).val = (BitVec.ofNat 32 (grid0.coords t 0).val).toNat * 1024 + 1 * i.val
    rw [row_of]; simp only [grow, ptV]; omega
  · show (gcol (ptV t) j).val = 16640 + (0 * 1280 + 1 * j.val)
    simp only [gcol, ptV]; omega

/-- The query array. -/
theorem final5 (c : Dev nD) : (dats m 0 c).arrAt 5 cfg0.N = Gq (Xa m c) (Wa m c) (Sa m c) (Aa m c) :=
  (dats m 0 c).arrAt_eq_of_cover 5 (Gq (Xa m c) (Wa m c) (Sa m c) (Aa m c)) (flushed5 m c) fun (y : S6144x15360.Idx) => by
    have h0 : (y 0).val < 6144 := (y 0).isLt
    have h1 : (y 1).val < 15360 := (y 1).isLt
    have hN := N_eq
    obtain ⟨t, ht⟩ : ∃ t : Fin cfg0.N, t.val = 112 * ((y 0).val / 1024) + if (y 1).val / 1280 ≤ 10 then 8 * ((y 1).val / 1280) + 7 else 111 := ⟨⟨_, by split <;> omega⟩, rfl⟩
    refine ⟨t, ?_, ?_⟩
    · rw [flush0_5]; split at ht <;> omega
    · show y ∈ ((View.whole main_v38_0).slice (win0_5.rect t)).set
      rw [View.set_slice_whole, Rect.mem_set_unit]
      intro a
      match a with
      | ⟨0, _⟩ =>
        show (BitVec.ofNat 32 (grid0.coords t 0).val).toNat * 1024 ≤ (y 0).val ∧ (y 0).val < (BitVec.ofNat 32 (grid0.coords t 0).val).toNat * 1024 + 1024
        rw [row_of]; split at ht <;> omega
      | ⟨1, _⟩ =>
        show (Scalar.minsi (BitVec.ofNat 32 (grid0.coords t 1).val) 11#32).toNat * 1280 ≤ (y 1).val ∧ (y 1).val < (Scalar.minsi (BitVec.ofNat 32 (grid0.coords t 1).val) 11#32).toNat * 1280 + 1280
        rw [qcol_of]; split at ht <;> omega

/-- The key array. -/
theorem final6 (c : Dev nD) : (dats m 0 c).arrAt 6 cfg0.N = Gk (Xa m c) (Wa m c) (Sa m c) (Aa m c) :=
  (dats m 0 c).arrAt_eq_of_cover 6 (Gk (Xa m c) (Wa m c) (Sa m c) (Aa m c)) (flushed6 m c) fun (y : S6144x1280.Idx) => by
    have h0 : (y 0).val < 6144 := (y 0).isLt
    have h1 : (y 1).val < 1280 := (y 1).isLt
    have hN := N_eq
    obtain ⟨t, ht⟩ : ∃ t : Fin cfg0.N, t.val = 112 * ((y 0).val / 1024) + 111 := ⟨⟨_, by omega⟩, rfl⟩
    refine ⟨t, ?_, ?_⟩
    · rw [flush0_6]; omega
    · show y ∈ ((View.whole main_v38_1).slice (win0_6.rect t)).set
      rw [View.set_slice_whole, Rect.mem_set_unit]
      intro a
      match a with
      | ⟨0, _⟩ =>
        show (BitVec.ofNat 32 (grid0.coords t 0).val).toNat * 1024 ≤ (y 0).val ∧ (y 0).val < (BitVec.ofNat 32 (grid0.coords t 0).val).toNat * 1024 + 1024
        rw [row_of]; omega
      | ⟨1, _⟩ =>
        show 0 * 1280 ≤ (y 1).val ∧ (y 1).val < 0 * 1280 + 1280
        omega

/-- The value array. -/
theorem final7 (c : Dev nD) : (dats m 0 c).arrAt 7 cfg0.N = Gv (Xa m c) (Wa m c) (Sa m c) :=
  (dats m 0 c).arrAt_eq_of_cover 7 (Gv (Xa m c) (Wa m c) (Sa m c)) (flushed7 m c) fun (y : S6144x1280.Idx) => by
    have h0 : (y 0).val < 6144 := (y 0).isLt
    have h1 : (y 1).val < 1280 := (y 1).isLt
    have hN := N_eq
    obtain ⟨t, ht⟩ : ∃ t : Fin cfg0.N, t.val = 112 * ((y 0).val / 1024) + 111 := ⟨⟨_, by omega⟩, rfl⟩
    refine ⟨t, ?_, ?_⟩
    · rw [flush0_7]; omega
    · show y ∈ ((View.whole main_v38_2).slice (win0_7.rect t)).set
      rw [View.set_slice_whole, Rect.mem_set_unit]
      intro a
      match a with
      | ⟨0, _⟩ =>
        show (BitVec.ofNat 32 (grid0.coords t 0).val).toNat * 1024 ≤ (y 0).val ∧ (y 0).val < (BitVec.ofNat 32 (grid0.coords t 0).val).toNat * 1024 + 1024
        rw [row_of]; omega
      | ⟨1, _⟩ =>
        show 0 * 1280 ≤ (y 1).val ∧ (y 1).val < 0 * 1280 + 1280
        omega

end Cert.KernelIdeal.Body

end
-- ==== Proof.RefFinal.lean ====
/-
  The reference's arrays: its whole arguments reach the body unchanged, the two tables hold the cosines and sines of the
  angles, and the three results are the projection, rotated for queries and keys.
-/
module

public import proofs.«01_k».proof.Proof.RefBody
public import proofs.«01_k».proof.Proof.Final

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

open Cert.KernelIdeal.Body (proj ang rot rotProj)

open Cert.KernelIdeal.Body (angles Gq Gk Gv)

variable (m : (ℓ : Loc nD τ sig) → Buf (Elt Ideal) ℓ)

/-- The cosine of each angle. -/
def cosT (a : FVec Ideal S3x2048x80 .f32) : FVec Ideal S3x2048x80 .f32 := Host.cos a

/-- The sine of each angle. -/
def sinT (a : FVec Ideal S3x2048x80 .f32) : FVec Ideal S3x2048x80 .f32 := Host.sin a

theorem V_cos (c : Dev nD) : (V m c main_v23 : Vec Ideal S3x2048x80 .f32) = cosT (angles (m ((c : Thread nD τ).loc main_arg3))) := by
  unfold V
  after_results
  rfl

theorem V_sin (c : Dev nD) : (V m c main_v24 : Vec Ideal S3x2048x80 .f32) = sinT (angles (m ((c : Thread nD τ).loc main_arg3))) := by
  unfold V
  after_results
  rfl

theorem cos_apply (a : Vec Ideal S3x2048x80 .f32) (i : S3x2048x80.Idx) : ((cosT a) i : EReal) = Ideal.cos (a i) := rfl

theorem sin_apply (a : Vec Ideal S3x2048x80 .f32) (i : S3x2048x80.Idx) : ((sinT a) i : EReal) = Ideal.sin (a i) := rfl

theorem iblk0_eq (c : Dev nD) (t : Fin cfg0.N) : (iblk m c 0 t : Vec Ideal S6144x16384 .bf16) = V m c main_arg0 := by
  funext (y : S6144x16384.Idx)
  unfold iblk
  rw [View.read_apply]
  show V m c main_arg0 _ = V m c main_arg0 y
  congr 1
  funext a
  apply Fin.ext
  match a with
  | ⟨0, _⟩ => show 0 * 6144 + 1 * (y 0).val = (y 0).val; omega
  | ⟨1, _⟩ => show 0 * 16384 + 1 * (y 1).val = (y 1).val; omega

theorem iblk1_eq (c : Dev nD) (t : Fin cfg0.N) : (iblk m c 1 t : Vec Ideal S16384x17920 .fp8e4m3) = V m c main_arg1 := by
  funext (y : S16384x17920.Idx)
  unfold iblk
  rw [View.read_apply]
  show V m c main_arg1 _ = V m c main_arg1 y
  congr 1
  funext a
  apply Fin.ext
  match a with
  | ⟨0, _⟩ => show 0 * 16384 + 1 * (y 0).val = (y 0).val; omega
  | ⟨1, _⟩ => show 0 * 17920 + 1 * (y 1).val = (y 1).val; omega

theorem iblk2_eq (c : Dev nD) (t : Fin cfg0.N) : (iblk m c 2 t : Vec Ideal S128x140 .f32) = V m c main_arg2 := by
  funext (y : S128x140.Idx)
  unfold iblk
  rw [View.read_apply]
  show V m c main_arg2 _ = V m c main_arg2 y
  congr 1
  funext a
  apply Fin.ext
  match a with
  | ⟨0, _⟩ => show 0 * 128 + 1 * (y 0).val = (y 0).val; omega
  | ⟨1, _⟩ => show 0 * 140 + 1 * (y 1).val = (y 1).val; omega

theorem iblk3_eq (c : Dev nD) (t : Fin cfg0.N) : (iblk m c 3 t : Vec Ideal S3x2048x80 .f32) = V m c main_v23 := by
  funext (y : S3x2048x80.Idx)
  unfold iblk
  rw [View.read_apply]
  show V m c main_v23 _ = V m c main_v23 y
  congr 1
  funext a
  apply Fin.ext
  match a with
  | ⟨0, _⟩ => show 0 * 3 + 1 * (y 0).val = (y 0).val; omega
  | ⟨1, _⟩ => show 0 * 2048 + 1 * (y 1).val = (y 1).val; omega
  | ⟨2, _⟩ => show 0 * 80 + 1 * (y 2).val = (y 2).val; omega

theorem iblk4_eq (c : Dev nD) (t : Fin cfg0.N) : (iblk m c 4 t : Vec Ideal S3x2048x80 .f32) = V m c main_v24 := by
  funext (y : S3x2048x80.Idx)
  unfold iblk
  rw [View.read_apply]
  show V m c main_v24 _ = V m c main_v24 y
  congr 1
  funext a
  apply Fin.ext
  match a with
  | ⟨0, _⟩ => show 0 * 3 + 1 * (y 0).val = (y 0).val; omega
  | ⟨1, _⟩ => show 0 * 2048 + 1 * (y 1).val = (y 1).val; omega
  | ⟨2, _⟩ => show 0 * 80 + 1 * (y 2).val = (y 2).val; omega

theorem hz2 : (![0, 0] : Fin 2 → ℕ) = fun _ => 0 := by decide
theorem hz3 : (![0, 0, 0] : Fin 3 → ℕ) = fun _ => 0 := by decide

theorem out5_eq (x0 : Vec Ideal S6144x16384 .bf16) (x1 : Vec Ideal S16384x17920 .fp8e4m3) (x2 : Vec Ideal S128x140 .f32) (x3 x4 : Vec Ideal S3x2048x80 .f32) :
    out0_5 x0 x1 x2 x3 x4 = k0_pay8 x1 x2 x0 x3 x4 := by
  unfold out0_5
  rw [View.canon_unit_zero hz2, View.ld_unit_zero (S := S16384x17920) hz2, View.ld_unit_zero (S := S128x140) hz2,
    View.ld_unit_zero (S := S6144x16384) hz2, View.ld_unit_zero (S := S3x2048x80) hz3, View.ld_unit_zero (S := S3x2048x80) hz3]

theorem out6_eq (x0 : Vec Ideal S6144x16384 .bf16) (x1 : Vec Ideal S16384x17920 .fp8e4m3) (x2 : Vec Ideal S128x140 .f32) (x3 x4 : Vec Ideal S3x2048x80 .f32) :
    out0_6 x0 x1 x2 x3 x4
      = k0_pay1 (k0_pay6 x3) (k0_pay7 x4) (k0_pay9 x1 x2 x0) (k0_pay10 x1 x2 x0) (k0_pay11 x1 x2 x0 x3) (k0_pay12 x1 x2 x0 x4) := by
  unfold out0_6
  rw [View.canon_unit_zero hz2, View.ld_unit_zero (S := S16384x17920) hz2, View.ld_unit_zero (S := S128x140) hz2,
    View.ld_unit_zero (S := S6144x16384) hz2, View.ld_unit_zero (S := S3x2048x80) hz3, View.ld_unit_zero (S := S3x2048x80) hz3]

theorem out7_eq (x0 : Vec Ideal S6144x16384 .bf16) (x1 : Vec Ideal S16384x17920 .fp8e4m3) (x2 : Vec Ideal S128x140 .f32) (x3 x4 : Vec Ideal S3x2048x80 .f32) :
    out0_7 x0 x1 x2 x3 x4 = k0_pay2 (k0_pay5 x1 x2 x0) := by
  unfold out0_7
  rw [View.canon_unit_zero hz2, View.ld_unit_zero (S := S16384x17920) hz2, View.ld_unit_zero (S := S128x140) hz2,
    View.ld_unit_zero (S := S6144x16384) hz2]

/-- The reference's arguments as its body reads them. -/
abbrev Xr (c : Dev nD) : Vec Ideal S6144x16384 .bf16 := m ((c : Thread nD τ).loc main_arg0)
abbrev Wr (c : Dev nD) : Vec Ideal S16384x17920 .fp8e4m3 := m ((c : Thread nD τ).loc main_arg1)
abbrev Sr (c : Dev nD) : Vec Ideal S128x140 .f32 := m ((c : Thread nD τ).loc main_arg2)
abbrev Ar (c : Dev nD) : Vec Ideal S3x2048x80 .f32 := angles (m ((c : Thread nD τ).loc main_arg3))

attribute [local irreducible] k0_pay3 proj

/-- The queries the body stores are the kernel's. -/
theorem q_block (X : Vec Ideal S6144x16384 .bf16) (W : Vec Ideal S16384x17920 .fp8e4m3) (S : Vec Ideal S128x140 .f32) (A : Vec Ideal S3x2048x80 .f32) :
    k0_pay8 W S X (cosT A) (sinT A) = Gq X W S A := by
  funext y
  obtain ⟨r, n, rfl⟩ : ∃ (r : Fin 6144) (n : Fin 15360), y = ix2 r n := ⟨y 0, y 1, eq_ix2 y⟩
  refine (q_apply W S X (cosT A) (sinT A) r n).trans ?_
  rw [cos_apply, sin_apply, show (fun n => (k0_pay3 W S X (ix2 r n) : EReal)) = proj X W S r from funext fun n => proj_apply W S X r n]
  rfl

/-- The keys. -/
theorem k_block (X : Vec Ideal S6144x16384 .bf16) (W : Vec Ideal S16384x17920 .fp8e4m3) (S : Vec Ideal S128x140 .f32) (A : Vec Ideal S3x2048x80 .f32) :
    k0_pay1 (k0_pay6 (cosT A)) (k0_pay7 (sinT A)) (k0_pay9 W S X) (k0_pay10 W S X) (k0_pay11 W S X (cosT A)) (k0_pay12 W S X (sinT A)) = Gk X W S A := by
  funext y
  obtain ⟨r, n, rfl⟩ : ∃ (r : Fin 6144) (n : Fin 1280), y = ix2 r n := ⟨y 0, y 1, eq_ix2 y⟩
  refine (k_apply W S X (cosT A) (sinT A) r n).trans ?_
  rw [cos_apply, sin_apply, show (fun n => (k0_pay3 W S X (ix2 r n) : EReal)) = proj X W S r from funext fun n => proj_apply W S X r n]
  have e : (⟨n.val % 80, by omega⟩ : Fin 80) = ⟨(15360 + n.val) % 80, by omega⟩ := Fin.ext (by simp only []; omega)
  rw [e]
  rfl

/-- The values. -/
theorem v_block (X : Vec Ideal S6144x16384 .bf16) (W : Vec Ideal S16384x17920 .fp8e4m3) (S : Vec Ideal S128x140 .f32) :
    k0_pay2 (k0_pay5 W S X) = Gv X W S := by
  funext y
  obtain ⟨r, n, rfl⟩ : ∃ (r : Fin 6144) (n : Fin 1280), y = ix2 r n := ⟨y 0, y 1, eq_ix2 y⟩
  refine (v_apply W S X r n).trans ((proj_apply W S X r _).trans ?_)
  rfl

/-- What the reference's one point writes back to the query array. -/
theorem flushed5_eq (c : Dev nD) (t : Fin cfg0.N) :
    (dats m 0 c).flushed 5 t = ((cfg0.win 5).blk t).view.read (Elt Ideal) (Gq (Xr m c) (Wr m c) (Sr m c) (Ar m c)) := by
  rw [Cert.ReferenceIdeal.Value.flushed5, iblk0_eq, iblk1_eq, iblk2_eq, iblk3_eq, iblk4_eq, V_main_arg0, V_main_arg1, V_main_arg2, V_cos, V_sin,
    out5_eq, q_block]
  funext (y : S6144x15360.Idx)
  rw [View.read_apply]
  show Gq (Xr m c) (Wr m c) (Sr m c) (Ar m c) y = Gq (Xr m c) (Wr m c) (Sr m c) (Ar m c) _
  congr 1
  funext a
  apply Fin.ext
  match a with
  | ⟨0, _⟩ => show (y 0).val = 0 * 6144 + 1 * (y 0).val; omega
  | ⟨1, _⟩ => show (y 1).val = 0 * 15360 + 1 * (y 1).val; omega

/-- The reference's query array. -/
theorem final5 (c : Dev nD) : (dats m 0 c).arrAt 5 cfg0.N = Gq (Xr m c) (Wr m c) (Sr m c) (Ar m c) :=
  (dats m 0 c).arrAt_eq_of_cover 5 (Gq (Xr m c) (Wr m c) (Sr m c) (Ar m c)) (fun t _ => flushed5_eq m c t) fun (y : S6144x15360.Idx) => by
    have h0 : (y 0).val < 6144 := (y 0).isLt
    have h1 : (y 1).val < 15360 := (y 1).isLt
    obtain ⟨t, ht⟩ : ∃ t : Fin cfg0.N, (cfg0.win 5).flush t = true := ⟨⟨0, by decide⟩, by decide⟩
    refine ⟨t, ht, ?_⟩
    show y ∈ ((View.whole main_v25_0).slice (win0_5.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 15360 ≤ (y 1).val ∧ (y 1).val < 0 * 15360 + 15360; omega

/-- What the reference's one point writes back to the key array. -/
theorem flushed6_eq (c : Dev nD) (t : Fin cfg0.N) :
    (dats m 0 c).flushed 6 t = ((cfg0.win 6).blk t).view.read (Elt Ideal) (Gk (Xr m c) (Wr m c) (Sr m c) (Ar m c)) := by
  rw [Cert.ReferenceIdeal.Value.flushed6, iblk0_eq, iblk1_eq, iblk2_eq, iblk3_eq, iblk4_eq, V_main_arg0, V_main_arg1, V_main_arg2, V_cos, V_sin,
    out6_eq, k_block]
  funext (y : S6144x1280.Idx)
  rw [View.read_apply]
  show Gk (Xr m c) (Wr m c) (Sr m c) (Ar m c) y = Gk (Xr m c) (Wr m c) (Sr m c) (Ar m c) _
  congr 1
  funext a
  apply Fin.ext
  match a with
  | ⟨0, _⟩ => show (y 0).val = 0 * 6144 + 1 * (y 0).val; omega
  | ⟨1, _⟩ => show (y 1).val = 0 * 1280 + 1 * (y 1).val; omega

/-- The reference's key array. -/
theorem final6 (c : Dev nD) : (dats m 0 c).arrAt 6 cfg0.N = Gk (Xr m c) (Wr m c) (Sr m c) (Ar m c) :=
  (dats m 0 c).arrAt_eq_of_cover 6 (Gk (Xr m c) (Wr m c) (Sr m c) (Ar m c)) (fun t _ => flushed6_eq m c t) fun (y : S6144x1280.Idx) => by
    have h0 : (y 0).val < 6144 := (y 0).isLt
    have h1 : (y 1).val < 1280 := (y 1).isLt
    obtain ⟨t, ht⟩ : ∃ t : Fin cfg0.N, (cfg0.win 6).flush t = true := ⟨⟨0, by decide⟩, by decide⟩
    refine ⟨t, ht, ?_⟩
    show y ∈ ((View.whole main_v25_1).slice (win0_6.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 1280 ≤ (y 1).val ∧ (y 1).val < 0 * 1280 + 1280; omega

/-- What the reference's one point writes back to the value array. -/
theorem flushed7_eq (c : Dev nD) (t : Fin cfg0.N) :
    (dats m 0 c).flushed 7 t = ((cfg0.win 7).blk t).view.read (Elt Ideal) (Gv (Xr m c) (Wr m c) (Sr m c)) := by
  rw [Cert.ReferenceIdeal.Value.flushed7, iblk0_eq, iblk1_eq, iblk2_eq, iblk3_eq, iblk4_eq, V_main_arg0, V_main_arg1, V_main_arg2, V_cos, V_sin,
    out7_eq, v_block]
  funext (y : S6144x1280.Idx)
  rw [View.read_apply]
  show Gv (Xr m c) (Wr m c) (Sr m c) y = Gv (Xr m c) (Wr m c) (Sr m c) _
  congr 1
  funext a
  apply Fin.ext
  match a with
  | ⟨0, _⟩ => show (y 0).val = 0 * 6144 + 1 * (y 0).val; omega
  | ⟨1, _⟩ => show (y 1).val = 0 * 1280 + 1 * (y 1).val; omega

/-- The reference's value array. -/
theorem final7 (c : Dev nD) : (dats m 0 c).arrAt 7 cfg0.N = Gv (Xr m c) (Wr m c) (Sr m c) :=
  (dats m 0 c).arrAt_eq_of_cover 7 (Gv (Xr m c) (Wr m c) (Sr m c)) (fun t _ => flushed7_eq m c t) fun (y : S6144x1280.Idx) => by
    have h0 : (y 0).val < 6144 := (y 0).isLt
    have h1 : (y 1).val < 1280 := (y 1).isLt
    obtain ⟨t, ht⟩ : ∃ t : Fin cfg0.N, (cfg0.win 7).flush t = true := ⟨⟨0, by decide⟩, by decide⟩
    refine ⟨t, ht, ?_⟩
    show y ∈ ((View.whole main_v25_2).slice (win0_7.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 1280 ≤ (y 1).val ∧ (y 1).val < 0 * 1280 + 1280; omega

end Cert.ReferenceIdeal.Body

end
-- ==== Proof.Claims.lean ====
/-
  The claim that the kernel and the reference compute the same three arrays over the extended reals.
-/
module

public import proofs.«01_k».proof.Proof.RefFinal
public import proofs.«01_k».proof.Proof.Body
public import proofs.«01_k».proof.Defs

@[expose] public section

set_option maxRecDepth 16384

noncomputable section

namespace Cert.Proof

open Idealize.ShloMosaic Idealize.ShloMosaic.TcCoe Idealize.SL.Sem

/-- The kernel's run: its three results are the projection's columns, rotated for queries and keys. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v38_0) = (Cert.KernelIdeal.Body.dats m 0 c).arrAt 5 Cert.KernelIdeal.cfg0.N
      ∧ r.2.mem ((c.tc : Thread Cert.KernelIdeal.nD Cert.KernelIdeal.τ).loc Cert.KernelIdeal.main_v38_1) = (Cert.KernelIdeal.Body.dats m 0 c).arrAt 6 Cert.KernelIdeal.cfg0.N
      ∧ r.2.mem ((c.tc : Thread Cert.KernelIdeal.nD Cert.KernelIdeal.τ).loc Cert.KernelIdeal.main_v38_2) = (Cert.KernelIdeal.Body.dats m 0 c).arrAt 7 Cert.KernelIdeal.cfg0.N) :=
  (θ_run Cert.KernelIdeal.defs _ _).mono (fun _ h c => ⟨(h c).1 5, (h c).1 6, (h c).1 7⟩) (Cert.KernelIdeal.Body.run_main m ρ)

/-- The kernel and the reference, from equal arguments, end with equal queries, keys and values. -/
theorem algebraic : Cert.algebraic_KernelIdeal_ReferenceIdeal := by
  intro m ρ m' ρ' _ hagree
  refine ⟨fun c => (Cert.KernelIdeal.Body.dats m 0 c).arrAt 5 Cert.KernelIdeal.cfg0.N,
    fun c => (Cert.KernelIdeal.Body.dats m 0 c).arrAt 6 Cert.KernelIdeal.cfg0.N,
    fun c => (Cert.KernelIdeal.Body.dats m 0 c).arrAt 7 Cert.KernelIdeal.cfg0.N, ?_, ?_⟩
  · exact (θ_run Cert.KernelIdeal.defs _ _).mono
      (fun _ h c => ⟨(h.1 c).1, (h.1 c).2.1, (h.1 c).2.2, h.2 c⟩)
      (θ_run_and (kernel_run m ρ) (Cert.KernelIdeal.Body.unchanged m ρ))
  · refine (θ_run Cert.ReferenceIdeal.defs _ _).mono (fun _ h c => ?_) (Cert.ReferenceIdeal.Value.run_blocks m' ρ')
    obtain ⟨h5, h6, h7, hargs⟩ := h c
    obtain ⟨a0, a1, a2, a3⟩ := hagree c
    have e0 : Cert.ReferenceIdeal.Body.Xr m' c = Cert.KernelIdeal.Body.Xa m c := a0
    have e1 : Cert.ReferenceIdeal.Body.Wr m' c = Cert.KernelIdeal.Body.Wa m c := a1
    have e2 : Cert.ReferenceIdeal.Body.Sr m' c = Cert.KernelIdeal.Body.Sa m c := a2
    have e3 : Cert.ReferenceIdeal.Body.Ar m' c = Cert.KernelIdeal.Body.Aa m c := congrArg Cert.KernelIdeal.Body.angles a3
    have f5 := Cert.ReferenceIdeal.Body.final5 m' c
    have f6 := Cert.ReferenceIdeal.Body.final6 m' c
    have f7 := Cert.ReferenceIdeal.Body.final7 m' c
    rw [e0, e1, e2, e3] at f5 f6
    rw [e0, e1, e2] at f7
    exact ⟨h5.trans (f5.trans (Cert.KernelIdeal.Body.final5 m c).symm), h6.trans (f6.trans (Cert.KernelIdeal.Body.final6 m c).symm),
      h7.trans (f7.trans (Cert.KernelIdeal.Body.final7 m c).symm), hargs⟩

end Cert.Proof

end
-- ==== Proof.QuantNum.lean ====
/-
  The exponent search over the extended reals: the eight comparisons find the exponent field of a value in f32 range, and
  the scale and the inverse built from that field are the least power of two above the value and its reciprocal.
-/
module

public import Idealize.ShloMosaic.Lib.Pointwise

@[expose] public section

namespace Cert.QuantNum

open Idealize Idealize.ShloMosaic

/-- The f32 whose exponent field is `n` and whose fraction is zero. -/
noncomputable def pat (n : ℕ) : EReal :=
  if n = 0 then 0 else if 255 ≤ n then ⊤ else (((2 : ℝ) ^ ((n : ℤ) - 127) : ℝ) : EReal)

theorem normal_eq (c : ℕ) (n b : ℤ) :
    (1 : ℝ) * ((2 ^ c + 0 : ℕ) : ℝ) * (2 : ℝ) ^ (n - b - (c : ℤ)) = (2 : ℝ) ^ (n - b) := by
  rw [Nat.add_zero, Nat.cast_pow, Nat.cast_ofNat, ← zpow_natCast (2 : ℝ) c, one_mul, ← zpow_add₀ (by norm_num)]
  congr 1
  ring

theorem ofBits_pat (n : ℕ) (h : n < 256) : Ideal.ofBits .f32 (BitVec.ofNat 32 n <<< (23#32).toNat) = pat n := by
  have hn : (BitVec.ofNat 32 n <<< (23#32).toNat).extractLsb' (8 + 23) 1 = 0#1 := by
    have : ∀ k : Fin 256, (BitVec.ofNat 32 k.val <<< (23#32).toNat).extractLsb' (8 + 23) 1 = 0#1 := by decide +kernel
    exact this ⟨n, h⟩
  have he : ((BitVec.ofNat 32 n <<< (23#32).toNat).extractLsb' 23 8).toNat = n := by
    have : ∀ k : Fin 256, ((BitVec.ofNat 32 k.val <<< (23#32).toNat).extractLsb' 23 8).toNat = k.val := by decide +kernel
    exact this ⟨n, h⟩
  have hf : ((BitVec.ofNat 32 n <<< (23#32).toNat).extractLsb' 0 23).toNat = 0 := by
    have : ∀ k : Fin 256, ((BitVec.ofNat 32 k.val <<< (23#32).toNat).extractLsb' 0 23).toNat = 0 := by decide +kernel
    exact this ⟨n, h⟩
  have hs : ((0#1 : BitVec 1) == 1#1) = false := by decide
  unfold Ideal.ofBits
  simp only [Ideal.ieee, hn, he, hf, hs]
  unfold pat
  have p8 : (2 : ℕ) ^ 8 - 1 = 255 := by norm_num
  rw [p8]
  by_cases h0 : n = 0
  · rw [if_neg (by omega), if_pos h0, if_pos h0]
    simp only [Nat.cast_zero, mul_zero, zero_mul, EReal.coe_zero]
  · by_cases h1 : n = 255
    · rw [if_pos h1, if_neg h0, if_pos h1.ge]
      simp only [Bool.false_eq_true, if_true, if_false]
    · have h2 : ¬ 255 ≤ n := by omega
      rw [if_neg h1, if_neg h0, if_neg h0, if_neg h2]
      have p7 : (2 : ℤ) ^ (8 - 1) - 1 = 127 := by norm_num
      rw [p7, if_neg (by decide : ¬ (false = true))]
      exact congrArg _ (normal_eq 23 n 127)

theorem pat_lt {a b : ℕ} (h : a < b) (hb : b ≤ 255) : pat a < pat b := by
  unfold pat
  have hb0 : b ≠ 0 := by omega
  have ha : ¬ 255 ≤ a := by omega
  simp only [hb0, ha, if_false]
  by_cases h1 : 255 ≤ b
  · simp only [h1, if_true]
    by_cases h0 : a = 0
    · simp [h0]
    · simp only [h0, if_false]; exact EReal.coe_lt_top _
  · simp only [h1, if_false]
    by_cases h0 : a = 0
    · simp only [h0, if_true]
      exact_mod_cast (by positivity : (0 : ℝ) < (2 : ℝ) ^ ((b : ℤ) - 127))
    · simp only [h0, if_false]
      rw [EReal.coe_lt_coe_iff]
      exact zpow_lt_zpow_right₀ (by norm_num) (by omega)

theorem pat_le {a b : ℕ} (h : a ≤ b) (hb : b ≤ 255) : pat a ≤ pat b := by
  rcases h.eq_or_lt with h | h
  · rw [h]
  · exact (pat_lt h hb).le

/-- One step of the search for the exponent field. -/
noncomputable def step (b : BitVec 32) (z : EReal) (f : BitVec 32) : BitVec 32 :=
  Scalar.select (Ideal.cmp .oge z (Ideal.ofBits .f32 ((f + b) <<< (23#32).toNat))) (f + b) f

theorem step_ok (z : EReal) (b : ℕ) (hb : 0 < b) (F : BitVec 32)
    (H : ∃ f, F = BitVec.ofNat 32 f ∧ f + 2 * b ≤ 256 ∧ pat f ≤ z ∧ z < pat (f + 2 * b)) :
    ∃ f, step (BitVec.ofNat 32 b) z F = BitVec.ofNat 32 f ∧ f + b ≤ 256 ∧ pat f ≤ z ∧ z < pat (f + b) := by
  obtain ⟨f, hF, h, lo, hi⟩ := H
  subst hF
  have e : BitVec.ofNat 32 f + BitVec.ofNat 32 b = BitVec.ofNat 32 (f + b) := by
    rw [BitVec.ofNat_add]
  unfold step
  rw [e, ofBits_pat (f + b) (by omega)]
  by_cases hc : pat (f + b) ≤ z
  · refine ⟨f + b, ?_, by omega, hc, ?_⟩
    · simp [Ideal.cmp, hc, Scalar.select]
    · rw [show f + b + b = f + 2 * b by omega]; exact hi
  · refine ⟨f, ?_, by omega, lo, not_le.mp hc⟩
    simp [Ideal.cmp, hc, Scalar.select]

noncomputable def field (z : EReal) : BitVec 32 :=
  step 1#32 z (step 2#32 z (step 4#32 z (step 8#32 z (step 16#32 z (step 32#32 z (step 64#32 z (step 128#32 z 0#32)))))))

theorem field_ok (z : EReal) (h0 : 0 ≤ z) (ht : z < pat 254) :
    ∃ f, field z = BitVec.ofNat 32 f ∧ f ≤ 253 ∧ pat f ≤ z ∧ z < pat (f + 1) := by
  have s := step_ok z 128 (by norm_num) 0#32 ⟨0, rfl, by norm_num, by simpa [pat] using h0,
    lt_of_lt_of_le ht (by simp [pat])⟩
  have s := step_ok z 64 (by norm_num) _ s
  have s := step_ok z 32 (by norm_num) _ s
  have s := step_ok z 16 (by norm_num) _ s
  have s := step_ok z 8 (by norm_num) _ s
  have s := step_ok z 4 (by norm_num) _ s
  have s := step_ok z 2 (by norm_num) _ s
  obtain ⟨f, hf, hb, lo, hi⟩ := step_ok z 1 (by norm_num) _ s
  refine ⟨f, hf, ?_, lo, hi⟩
  by_contra hc
  have := pat_le (a := 254) (b := f) (by omega) (by omega)
  exact absurd (lt_of_le_of_lt (this.trans lo) ht) (lt_irrefl _)

noncomputable def expo (z : EReal) : BitVec 32 :=
  Scalar.select ((IntOp.cmpi .eq (field z) 0#32) ||| (IntOp.cmpi .eq (field z) 255#32)) 0#32 (field z - 126#32)

noncomputable def pow2 (e : BitVec 32) : EReal := Ideal.ofBits .f32 ((e + 127#32) <<< (23#32).toNat)

/-- The exponent field of the scale. -/
def up (f : ℕ) : ℕ := if f = 0 then 127 else f + 1

theorem pow2_expo (z : EReal) (f : ℕ) (hz : field z = BitVec.ofNat 32 f) (hf : f ≤ 253) :
    pow2 (expo z) = pat (up f) ∧ pow2 (0#32 - expo z) = pat (254 - up f) := by
  have key : ∀ k : Fin 254,
      (Scalar.select ((IntOp.cmpi .eq (BitVec.ofNat 32 k.val) 0#32) ||| (IntOp.cmpi .eq (BitVec.ofNat 32 k.val) 255#32)) 0#32 (BitVec.ofNat 32 k.val - 126#32)) + 127#32
        = BitVec.ofNat 32 (up k.val) ∧
      (0#32 - Scalar.select ((IntOp.cmpi .eq (BitVec.ofNat 32 k.val) 0#32) ||| (IntOp.cmpi .eq (BitVec.ofNat 32 k.val) 255#32)) 0#32 (BitVec.ofNat 32 k.val - 126#32)) + 127#32
        = BitVec.ofNat 32 (254 - up k.val) := by decide +kernel
  obtain ⟨h1, h2⟩ := key ⟨f, by omega⟩
  have hu : up f < 256 := by unfold up; split <;> omega
  unfold pow2 expo
  rw [hz]
  simp only at h1 h2
  rw [h1, h2, ofBits_pat _ hu, ofBits_pat _ (by omega)]
  exact ⟨rfl, rfl⟩

/-- The least power of two above `z`. -/
noncomputable def least (z : EReal) : EReal :=
  Finset.univ.fold min ⊤ (fun k : Fin 253 => if z < pat (k.val + 2) then pat (k.val + 2) else ⊤)

noncomputable def scale (z : EReal) : EReal := if z < pat 1 then pat 127 else least z

noncomputable def inv (s : EReal) : EReal := if s < pat 254 then Ideal.div (pat 127) s else 0

theorem least_eq (z : EReal) (f : ℕ) (h0 : 0 < f) (hf : f ≤ 253) (lo : pat f ≤ z) (hi : z < pat (f + 1)) :
    least z = pat (f + 1) := by
  unfold least
  apply le_antisymm
  · rw [Finset.fold_min_le]
    right
    refine ⟨⟨f - 1, by omega⟩, Finset.mem_univ _, ?_⟩
    simp only [show f - 1 + 2 = f + 1 by omega, hi, if_true, le_refl]
  · rw [Finset.le_fold_min]
    refine ⟨le_top, fun k _ => ?_⟩
    split
    · rename_i hk
      have : f < k.val + 2 := by
        by_contra hc
        exact absurd (lt_of_lt_of_le hk ((pat_le (not_lt.mp hc) (by omega)).trans lo)) (lt_irrefl _)
      exact pat_le (by omega) (by omega)
    · exact le_top

theorem div_pat (n : ℕ) (h0 : 0 < n) (hn : n < 254) : Ideal.div (pat 127) (pat n) = pat (254 - n) := by
  have e1 : pat n = (((2 : ℝ) ^ ((n : ℤ) - 127) : ℝ) : EReal) := by
    unfold pat; rw [if_neg (by omega), if_neg (by omega)]
  have e2 : pat (254 - n) = (((2 : ℝ) ^ (127 - (n : ℤ)) : ℝ) : EReal) := by
    unfold pat; rw [if_neg (by omega), if_neg (by omega)]
    congr 2; push_cast [Nat.cast_sub (show n ≤ 254 by omega)]; ring
  have e3 : pat 127 = 1 := by simp [pat]
  have hne : (((2 : ℝ) ^ ((n : ℤ) - 127) : ℝ) : EReal) ≠ 0 := by
    exact_mod_cast (by positivity : (2 : ℝ) ^ ((n : ℤ) - 127) ≠ 0)
  rw [e1, e2, e3]
  unfold Ideal.div
  rw [if_neg hne, one_mul, ← EReal.coe_inv, ← zpow_neg]
  congr 2; ring

/-- Below `2 ^ 127` the searched exponent gives the least power of two above `z`, and its reciprocal. -/
theorem scales_eq (z : EReal) (h0 : 0 ≤ z) (ht : z < pat 254) :
    pow2 (expo z) = scale z ∧ pow2 (0#32 - expo z) = inv (scale z) := by
  obtain ⟨f, hz, hf, lo, hi⟩ := field_ok z h0 ht
  obtain ⟨h1, h2⟩ := pow2_expo z f hz hf
  have hs : scale z = pat (up f) := by
    unfold scale up
    by_cases hf0 : f = 0
    · subst hf0; rw [if_pos hi, if_pos rfl]
    · rw [if_neg (not_lt.mpr ((pat_le (by omega) (by omega)).trans lo)), if_neg hf0]
      exact least_eq z f (by omega) hf lo hi
  refine ⟨h1.trans hs.symm, ?_⟩
  rw [h2, hs]
  have hu : 0 < up f ∧ up f ≤ 254 := by unfold up; split <;> omega
  unfold inv
  by_cases h : up f = 254
  · rw [h, if_neg (lt_irrefl _)]; simp [pat]
  · rw [if_pos (pat_lt (by omega) (by norm_num)), div_pat _ hu.1 (by omega)]

end Cert.QuantNum
-- ==== Proof.QuantBound.lean ====
/-
  A row normalised, its groups' peaks, scales and codes; a group's scaled peak stays below 2^127 when the weights are finite
  f32 values.
-/
module

public import proofs.«01_k».proof.Proof.QuantNum

@[expose] public section

namespace Cert.QuantNum

open Idealize Idealize.ShloMosaic

/-- A row's reciprocal root mean square. -/
noncomputable def rms (X : Fin 16384 → EReal) : EReal :=
  Ideal.rsqrt ((∑ k, X k * X k) * Ideal.ofBits .f32 0x38800000#32 + Ideal.ofBits .f32 0x358637BD#32)

theorem mean_bits : Ideal.ofBits .f32 0x38800000#32 = ((1 / 16384 : ℝ) : EReal) := by
  simp [Ideal.ofBits, Ideal.ieee, -EReal.coe_mul]; norm_num

theorem eps_bits : ∃ e : ℝ, 0 < e ∧ Ideal.ofBits .f32 0x358637BD#32 = (e : EReal) := by
  refine ⟨(8388608 + 407485 : ℝ) * 2 ^ (-43 : ℤ), by positivity, ?_⟩
  simp [Ideal.ofBits, Ideal.ieee, -EReal.coe_mul]; norm_num

theorem mul_self_nonneg' (x : EReal) : 0 ≤ x * x := by
  induction x with
  | bot => simp
  | top => simp
  | coe r => rw [← EReal.coe_mul]; exact_mod_cast mul_self_nonneg r

theorem rsqrt_of_pos {r : ℝ} (h : 0 < r) : Ideal.rsqrt (r : EReal) = (((√r)⁻¹ : ℝ) : EReal) := by
  show (if r < 0 then ⊥ else if r = 0 then ⊤ else (((√r)⁻¹ : ℝ) : EReal)) = _
  rw [if_neg h.not_gt, if_neg h.ne']

theorem norm_le (X : Fin 16384 → EReal) (k : Fin 16384) :
    ∃ u : ℝ, X k * rms X = u ∧ |u| ≤ 128 := by
  have hk : X k * X k ≤ ∑ k, X k * X k :=
    Finset.single_le_sum (f := fun k => X k * X k) (fun i _ => mul_self_nonneg' (X i)) (Finset.mem_univ k)
  obtain ⟨e, he, hE⟩ := eps_bits
  unfold rms
  rw [mean_bits, hE]
  generalize (∑ k, X k * X k) = S at hk ⊢
  have h0 : 0 ≤ S := (mul_self_nonneg' (X k)).trans hk
  induction S with
  | bot => simp at h0
  | top =>
    refine ⟨0, ?_, by simp⟩
    rw [EReal.top_mul_of_pos (by exact_mod_cast (by norm_num : (0 : ℝ) < 1 / 16384)), EReal.top_add_coe]
    rw [show Ideal.rsqrt ⊤ = 0 from rfl, mul_zero, EReal.coe_zero]
  | coe s =>
    have hs : 0 ≤ s := by exact_mod_cast h0
    generalize X k = x at hk ⊢
    induction x with
    | bot => simp at hk
    | top => simp at hk
    | coe x =>
      have hx : x * x ≤ s := by exact_mod_cast hk
      have hp : 0 < s * (1 / 16384) + e := by positivity
      refine ⟨x * (√(s * (1 / 16384) + e))⁻¹, ?_, ?_⟩
      · rw [← EReal.coe_mul, ← EReal.coe_add, rsqrt_of_pos hp, EReal.coe_mul]
      · apply abs_le_of_sq_le_sq _ (by norm_num)
        rw [mul_pow, inv_pow, Real.sq_sqrt hp.le, ← div_eq_mul_inv, div_le_iff₀ hp]
        nlinarith

/-- A group's largest magnitude over the largest code. -/
noncomputable def peak (A : Fin 128 → EReal) : EReal :=
  Finset.univ.fold max ⊥ (fun j => max (A j) (-A j)) * Ideal.ofBits .f32 0x3B124925#32

theorem peak_bits : Ideal.ofBits .f32 0x3B124925#32 = (((8388608 + 1198373) * 2 ^ (-32 : ℤ) : ℝ) : EReal) := by
  simp [Ideal.ofBits, Ideal.ieee, -EReal.coe_mul]; norm_num

theorem largest_bits : Ideal.ofBits .f32 0x7F7FFFFF#32 = (((8388608 + 8388607) * 2 ^ (104 : ℤ) : ℝ) : EReal) := by
  simp [Ideal.ofBits, Ideal.ieee, -EReal.coe_mul]; norm_num

theorem norm_weight_le (X : Fin 16384 → EReal) (k : Fin 16384) (w : EReal)
    (hw : max w (-w) ≤ Ideal.ofBits .f32 0x7F7FFFFF#32) :
    max (X k * rms X * w) (-(X k * rms X * w)) ≤ ((2 ^ (135 : ℤ) : ℝ) : EReal) := by
  obtain ⟨u, hu, hb⟩ := norm_le X k
  rw [largest_bits] at hw
  rw [hu]
  obtain ⟨h1, h2⟩ := max_le_iff.mp hw
  induction w with
  | bot => exact absurd (top_le_iff.mp (EReal.neg_bot ▸ h2)) (EReal.coe_ne_top _)
  | top => exact absurd (top_le_iff.mp h1) (EReal.coe_ne_top _)
  | coe w =>
    have h1 : w ≤ (8388608 + 8388607) * 2 ^ (104 : ℤ) := by exact_mod_cast h1
    have h2 : -w ≤ (8388608 + 8388607) * 2 ^ (104 : ℤ) := by exact_mod_cast h2
    have hw : |w| ≤ 2 ^ (128 : ℤ) := by
      refine (abs_le'.mpr ⟨h1, h2⟩).trans ?_
      norm_num
    have : |u * w| ≤ 2 ^ (135 : ℤ) := by
      rw [abs_mul]
      refine (mul_le_mul hb hw (abs_nonneg _) (by norm_num)).trans ?_
      norm_num
    obtain ⟨h3, h4⟩ := abs_le'.mp this
    rw [← EReal.coe_mul, ← EReal.coe_neg]
    exact max_le (EReal.coe_le_coe_iff.mpr h3) (EReal.coe_le_coe_iff.mpr h4)

theorem peak_bounds (A : Fin 128 → EReal) (h : ∀ j, max (A j) (-A j) ≤ ((2 ^ (135 : ℤ) : ℝ) : EReal)) :
    0 ≤ peak A ∧ peak A < pat 254 := by
  have hc : (0 : EReal) ≤ (((8388608 + 1198373) * 2 ^ (-32 : ℤ) : ℝ) : EReal) := by
    exact_mod_cast (by positivity : (0 : ℝ) ≤ (8388608 + 1198373) * 2 ^ (-32 : ℤ))
  unfold peak
  rw [peak_bits]
  constructor
  · refine mul_nonneg ?_ hc
    rw [Finset.le_fold_max]
    refine Or.inr ⟨0, Finset.mem_univ _, ?_⟩
    rcases le_total 0 (A 0) with h | h
    · exact le_max_of_le_left h
    · exact le_max_of_le_right (by simpa using EReal.neg_le_neg_iff.mpr h)
  · have hm : Finset.univ.fold max ⊥ (fun j => max (A j) (-A j)) ≤ ((2 ^ (135 : ℤ) : ℝ) : EReal) := by
      rw [Finset.fold_max_le]
      exact ⟨bot_le, fun j _ => h j⟩
    refine lt_of_le_of_lt (mul_le_mul_of_nonneg_right hm hc) ?_
    rw [← EReal.coe_mul]
    have : pat 254 = (((2 : ℝ) ^ (127 : ℤ) : ℝ) : EReal) := by simp [pat]
    rw [this, EReal.coe_lt_coe_iff]
    norm_num

/-- A row, normalised and weighted. -/
noncomputable def nx (X W : Fin 16384 → EReal) (k : Fin 16384) : EReal := X k * rms X * W k

/-- A group's peak. -/
noncomputable def zz (X W : Fin 16384 → EReal) (g : Fin 128) : EReal :=
  peak (fun j => nx X W ⟨g.val * 128 + j.val, by omega⟩)

/-- A group's scale. -/
noncomputable def sc (X W : Fin 16384 → EReal) (g : Fin 128) : EReal := scale (zz X W g)

/-- The code of an element. -/
noncomputable def code (X W : Fin 16384 → EReal) (k : Fin 16384) : EReal :=
  min (Ideal.ofBits .f32 0x43E00000#32) (max (Ideal.ofBits .f32 0xC3E00000#32)
    (nx X W k * inv (sc X W ⟨k.val / 128, by omega⟩)))

/-- The element its code and scale stand for. -/
noncomputable def xa (X W : Fin 16384 → EReal) (k : Fin 16384) : EReal :=
  code X W k * sc X W ⟨k.val / 128, by omega⟩

theorem zz_bounds (X W : Fin 16384 → EReal) (hW : ∀ k, max (W k) (-W k) ≤ Ideal.ofBits .f32 0x7F7FFFFF#32) (g : Fin 128) :
    0 ≤ zz X W g ∧ zz X W g < pat 254 :=
  peak_bounds _ fun _ => norm_weight_le X _ _ (hW _)

end Cert.QuantNum
-- ==== Proof.QuantRefBody.lean ====
/-
  The body of the quantising reference, element by element.
-/
module

public import proofs.«01_k».proof.Proof.Gen.QuantReferenceIdeal.Value
public import proofs.«01_k».proof.Proof.QuantBound

@[expose] public section

set_option maxRecDepth 16384

noncomputable section

namespace Cert.QuantReferenceIdeal.Body

open Idealize Idealize.ShloMosaic Idealize.ShloMosaic.FloatOps Cert.QuantReferenceIdeal Cert.QuantReferenceIdeal.Gen

section Vectors

variable {F : FTy → Type} [FloatOps F]

/-- The groups' peaks. -/
def peakV (x : FVec F S6144x128x128 .f32) : FVec F S6144x128 .f32 :=
  mulf (multiReduction .maximumf [2] S6144x128 (absf x) 0xFF800000#32 reduces_S6144x128x128_S6144x128 (.inl rfl) rfl)
    (broadcast S6144x128 (Scalar.ofBits .f32 0x3B124925#32 : F .f32))

/-- The powers of two. -/
def powV : FVec F S1x1x253 .f32 := exp2 (sitofp .f32 (subi (iota .tc S1x1x253 32 [2] iota_S1x1x253_d2_w32) (broadcast S1x1x253 125#32)))

/-- The powers above each value, and infinity. -/
def aboveV (z : FVec F S6144x128 .f32) (p : FVec F S1x1x253 .f32) : FVec F S6144x128x253 .f32 :=
  select (cmpf .olt (broadcastTo S6144x128x253 (shapeCast S6144x128x1 z shapeCasts_S6144x128_S6144x128x1 : FVec F S6144x128x1 .f32) broadcasts_S6144x128x1_S6144x128x253)
      (broadcastTo S6144x128x253 p broadcasts_S1x1x253_S6144x128x253))
    (broadcastTo S6144x128x253 (shapeCast S1x1x253 p shapeCasts_S1x1x253_S1x1x253 : FVec F S1x1x253 .f32) broadcasts_S1x1x253_S6144x128x253)
    (broadcast S6144x128x253 (Scalar.ofBits .f32 0x7F800000#32 : F .f32))

/-- The least of them. -/
def leastV (a : FVec F S6144x128x253 .f32) : FVec F S6144x128 .f32 :=
  multiReduction .minimumf [2] S6144x128 a 0x7F800000#32 reduces_S6144x128x253_S6144x128 (.inl rfl) rfl

/-- The scales. -/
def scaleV (z l : FVec F S6144x128 .f32) : FVec F S6144x128 .f32 :=
  select (cmpf .olt z (broadcast S6144x128 (Scalar.ofBits .f32 0x00800000#32 : F .f32)))
    (broadcast S6144x128 (Scalar.ofBits .f32 0x3F800000#32 : F .f32)) l

/-- Which scales have a reciprocal. -/
def ltV (s : FVec F S6144x128 .f32) : IVec S6144x128 1 := cmpf .olt s (broadcast S6144x128 (Scalar.ofBits .f32 0x7F000000#32 : F .f32))

/-- The reciprocals. -/
def divV (s : FVec F S6144x128 .f32) : FVec F S6144x128 .f32 := divf (broadcast S6144x128 (Scalar.ofBits .f32 0x3F800000#32 : F .f32)) s

theorem pay5_eq (v0 : Vec F S6144x16384 .bf16) (v13 : Vec F S1x16384 .f32) :
    k0_pay5 v0 v13 = scaleV (peakV (k0_pay4 v0 v13)) (leastV (aboveV (peakV (k0_pay4 v0 v13)) powV)) := rfl

theorem pay6_eq (v0 : Vec F S6144x16384 .bf16) (v13 : Vec F S1x16384 .f32) : k0_pay6 v0 v13 = ltV (k0_pay5 v0 v13) := rfl

theorem pay7_eq (v0 : Vec F S6144x16384 .bf16) (v13 : Vec F S1x16384 .f32) : k0_pay7 v0 v13 = divV (k0_pay5 v0 v13) := rfl

end Vectors

/-- A row of the input. -/
def row (x0 : Vec Ideal S6144x16384 .bf16) (i : Fin 6144) (k : Fin 16384) : EReal := x0 (ix2 i k)

/-- The weights. -/
def wts (x1 : Vec Ideal S1x16384 .f32) (k : Fin 16384) : EReal := x1 (ix2 0 k)

theorem div_mean (s : EReal) : Ideal.div s (Ideal.ofBits .f32 0x46800000#32) = s * Ideal.ofBits .f32 0x38800000#32 := by
  have e : Ideal.ofBits .f32 0x46800000#32 = ((16384 : ℝ) : EReal) := by
    simp [Ideal.ofBits, Ideal.ieee, -EReal.coe_mul]; norm_num
  have hne : ((16384 : ℝ) : EReal) ≠ 0 := by exact_mod_cast (by norm_num : (16384 : ℝ) ≠ 0)
  rw [e, QuantNum.mean_bits]
  unfold Ideal.div
  rw [if_neg hne, ← EReal.coe_inv]
  norm_num

theorem nx_apply (x0 : Vec Ideal S6144x16384 .bf16) (x1 : Vec Ideal S1x16384 .f32) (i : Fin 6144) (g j : Fin 128) :
    (k0_pay4 x0 x1 (ix3 i g j) : EReal) = QuantNum.nx (row x0 i) (wts x1) ⟨g.val * 128 + j.val, by omega⟩ := by
  pointwise [k0_pay4]
  rw [div_mean]
  rfl

/-- The largest along the last of three axes. -/
theorem max3 {a b c : ℕ} (x : FVec Ideal ⟨3, ![a, b, c]⟩ .f32) (h : (⟨3, ![a, b, c]⟩ : Shape).Reduces [2] ⟨2, ![a, b]⟩) (i : Fin a) (j : Fin b) :
    (multiReduction .maximumf [2] ⟨2, ![a, b]⟩ x 0xFF800000#32 h (.inl rfl) rfl (ix2 i j) : EReal)
      = Finset.univ.fold max (⊥ : EReal) (fun k => x (ix3 i j k)) := by
  simp only [pointwise]
  rfl

/-- The least along the last of three axes. -/
theorem min3 {a b c : ℕ} (x : FVec Ideal ⟨3, ![a, b, c]⟩ .f32) (h : (⟨3, ![a, b, c]⟩ : Shape).Reduces [2] ⟨2, ![a, b]⟩) (i : Fin a) (j : Fin b) :
    (multiReduction .minimumf [2] ⟨2, ![a, b]⟩ x 0x7F800000#32 h (.inl rfl) rfl (ix2 i j) : EReal)
      = Finset.univ.fold min (⊤ : EReal) (fun k => x (ix3 i j k)) := by
  simp only [pointwise]
  rfl

theorem mul_at (u : FVec Ideal S6144x128 .f32) (b : BitVec 32) (i : Fin 6144) (g : Fin 128) :
    (mulf u (broadcast S6144x128 (Scalar.ofBits .f32 b : Ideal .f32)) (ix2 i g) : EReal) = (u (ix2 i g) : EReal) * Ideal.ofBits .f32 b := rfl

theorem peakV_apply (x : FVec Ideal S6144x128x128 .f32) (i : Fin 6144) (g : Fin 128) :
    (peakV x (ix2 i g) : EReal) = QuantNum.peak (fun j => x (ix3 i g j)) := by
  unfold peakV
  rw [mul_at, max3 (absf x) reduces_S6144x128x128_S6144x128 i g]
  rfl

/-- The powers' exponents. -/
theorem exponent (k : Fin 253) : (IntOp.subi (BitVec.ofNat 32 k.val) 125#32).toInt = (k.val : ℤ) - 125 := by
  have : ∀ k : Fin 253, (IntOp.subi (BitVec.ofNat 32 k.val) 125#32).toInt = (k.val : ℤ) - 125 := by decide +kernel
  exact this k

theorem powV_apply (k : Fin 253) : (powV (F := Ideal) (ix3 0 0 k) : EReal) = QuantNum.pat (k.val + 2) := by
  have e : (powV (F := Ideal) (ix3 0 0 k) : EReal) = Ideal.exp2 (((IntOp.subi (BitVec.ofNat 32 k.val) 125#32).toInt : ℝ) : EReal) := by
    pointwise [powV]
    rfl
  rw [e, exponent, Ideal.exp2_coe]
  unfold QuantNum.pat
  rw [if_neg (by omega), if_neg (by omega)]
  congr 1
  show (2 : ℝ) ^ (((k.val : ℤ) - 125 : ℤ) : ℝ) = _
  rw [Real.rpow_intCast]
  congr 1
  push_cast
  ring

theorem aboveV_apply (z : FVec Ideal S6144x128 .f32) (p : FVec Ideal S1x1x253 .f32) (i : Fin 6144) (g : Fin 128) (k : Fin 253) :
    (aboveV z p (ix3 i g k) : EReal) = if (z (ix2 i g) : EReal) < p (ix3 0 0 k) then (p (ix3 0 0 k) : EReal) else ⊤ := by
  pointwise [aboveV]
  rfl

theorem leastV_apply (a : FVec Ideal S6144x128x253 .f32) (i : Fin 6144) (g : Fin 128) :
    (leastV a (ix2 i g) : EReal) = Finset.univ.fold min (⊤ : EReal) (fun k => a (ix3 i g k)) :=
  min3 a reduces_S6144x128x253_S6144x128 i g

theorem scaleV_apply (z l : FVec Ideal S6144x128 .f32) (i : Fin 6144) (g : Fin 128) :
    (scaleV z l (ix2 i g) : EReal) = if (z (ix2 i g) : EReal) < Ideal.ofBits .f32 0x00800000#32 then Ideal.ofBits .f32 0x3F800000#32 else l (ix2 i g) := by
  pointwise [scaleV]

theorem codeV_apply (x : FVec Ideal S6144x128x128 .f32) (s : FVec Ideal S6144x128 .f32) (i : Fin 6144) (k : Fin 16384) :
    (k0_pay2 x (ltV s) (divV s) (ix2 i k) : EReal) = min (Ideal.ofBits .f32 0x43E00000#32) (max (Ideal.ofBits .f32 0xC3E00000#32)
      ((x (ix3 i ⟨k.val / 128, by omega⟩ ⟨k.val % 128, by omega⟩) : EReal) * (if (s (ix2 i ⟨k.val / 128, by omega⟩) : EReal) < Ideal.ofBits .f32 0x7F000000#32
        then Ideal.div (Ideal.ofBits .f32 0x3F800000#32) (s (ix2 i ⟨k.val / 128, by omega⟩)) else 0))) := by
  pointwise [k0_pay2, k0_pay1, ltV, divV]

theorem xaV_apply (x : FVec Ideal S6144x128x128 .f32) (s : FVec Ideal S6144x128 .f32) (u : IVec S6144x128 1) (v : FVec Ideal S6144x128 .f32) (i : Fin 6144) (k : Fin 16384) :
    (k0_pay3 x s u v (ix2 i k) : EReal) = (k0_pay2 x u v (ix2 i k) : EReal) * s (ix2 i ⟨k.val / 128, by omega⟩) := by
  pointwise [k0_pay3, k0_pay2]

attribute [local irreducible] peakV aboveV powV leastV scaleV k0_pay4

theorem one_bits : Ideal.ofBits .f32 0x3F800000#32 = QuantNum.pat 127 := QuantNum.ofBits_pat 127 (by norm_num)

theorem small_bits : Ideal.ofBits .f32 0x00800000#32 = QuantNum.pat 1 := QuantNum.ofBits_pat 1 (by norm_num)

theorem large_bits : Ideal.ofBits .f32 0x7F000000#32 = QuantNum.pat 254 := QuantNum.ofBits_pat 254 (by norm_num)

/-- The scales of the reference. -/
theorem scale_apply (x0 : Vec Ideal S6144x16384 .bf16) (x1 : Vec Ideal S1x16384 .f32) (i : Fin 6144) (g : Fin 128) :
    (k0_pay5 x0 x1 (ix2 i g) : EReal) = QuantNum.sc (row x0 i) (wts x1) g := by
  have hz : (peakV (k0_pay4 x0 x1) (ix2 i g) : EReal) = QuantNum.zz (row x0 i) (wts x1) g :=
    (peakV_apply (k0_pay4 x0 x1) i g).trans (congrArg QuantNum.peak (funext fun j => nx_apply x0 x1 i g j))
  have hl : (leastV (aboveV (peakV (k0_pay4 x0 x1)) powV) (ix2 i g) : EReal) = QuantNum.least (QuantNum.zz (row x0 i) (wts x1) g) := by
    rw [leastV_apply]
    unfold QuantNum.least
    refine congrArg (fun f : Fin 253 → EReal => Finset.univ.fold min (⊤ : EReal) f) (funext fun k => ?_)
    rw [aboveV_apply, hz, powV_apply]
  rw [pay5_eq, scaleV_apply, hz, hl, small_bits, one_bits]
  rfl

/-- The codes of the reference. -/
theorem code_apply (x0 : Vec Ideal S6144x16384 .bf16) (x1 : Vec Ideal S1x16384 .f32) (i : Fin 6144) (k : Fin 16384) :
    (k0_pay2 (k0_pay4 x0 x1) (k0_pay6 x0 x1) (k0_pay7 x0 x1) (ix2 i k) : EReal) = QuantNum.code (row x0 i) (wts x1) k := by
  rw [pay6_eq, pay7_eq, codeV_apply, scale_apply, nx_apply, large_bits, one_bits]
  have e : (⟨k.val / 128 * 128 + k.val % 128, by omega⟩ : Fin 16384) = k := Fin.ext (by simp only []; omega)
  unfold QuantNum.code QuantNum.inv
  simp only [e]

/-- The elements of the reference. -/
theorem xa_apply (x0 : Vec Ideal S6144x16384 .bf16) (x1 : Vec Ideal S1x16384 .f32) (i : Fin 6144) (k : Fin 16384) :
    (k0_pay3 (k0_pay4 x0 x1) (k0_pay5 x0 x1) (k0_pay6 x0 x1) (k0_pay7 x0 x1) (ix2 i k) : EReal) = QuantNum.xa (row x0 i) (wts x1) k := by
  rw [xaV_apply, code_apply, scale_apply]
  rfl

theorem hz2 : (![0, 0] : Fin 2 → ℕ) = fun _ => 0 := by decide

theorem out2_apply (x0 : Vec Ideal S6144x16384 .bf16) (x1 : Vec Ideal S1x16384 .f32) (i : Fin 6144) (k : Fin 16384) :
    (out0_2 x0 x1 (ix2 i k) : EReal) = QuantNum.code (row x0 i) (wts x1) k := by
  unfold out0_2 k0_pay8 k0_pay10 k0_pay11
  rw [View.canon_unit_zero hz2, View.ld_unit_zero (S := S6144x16384) hz2, View.ld_unit_zero (S := S1x16384) hz2]
  exact code_apply x0 x1 i k

theorem out3_apply (x0 : Vec Ideal S6144x16384 .bf16) (x1 : Vec Ideal S1x16384 .f32) (i : Fin 6144) (g : Fin 128) :
    (out0_3 x0 x1 (ix2 i g) : EReal) = QuantNum.sc (row x0 i) (wts x1) g := by
  unfold out0_3 k0_pay9
  rw [View.canon_unit_zero hz2, View.ld_unit_zero (S := S6144x16384) hz2, View.ld_unit_zero (S := S1x16384) hz2]
  exact scale_apply x0 x1 i g

theorem out4_apply (x0 : Vec Ideal S6144x16384 .bf16) (x1 : Vec Ideal S1x16384 .f32) (i : Fin 6144) (k : Fin 16384) :
    (out0_4 x0 x1 (ix2 i k) : EReal) = QuantNum.xa (row x0 i) (wts x1) k := by
  unfold out0_4 k0_pay8 k0_pay9 k0_pay10 k0_pay11
  rw [View.canon_unit_zero hz2, View.ld_unit_zero (S := S6144x16384) hz2, View.ld_unit_zero (S := S1x16384) hz2]
  exact xa_apply x0 x1 i k

end Cert.QuantReferenceIdeal.Body
-- ==== Proof.QuantVec.lean ====
/-
  The three blocks that the quantising body stores, as lists of 128 pieces, one per group.
-/
module

public import proofs.«01_k».proof.Proof.Gen.QuantIdeal.Frame

@[expose] public section

namespace Cert.QuantIdeal.Body

open Idealize Idealize.ShloMosaic Idealize.ShloMosaic.FloatOps Cert.QuantIdeal Cert.QuantIdeal.Gen

variable {F : FTy → Type} [FloatOps F]

/-- A group normalised. -/
noncomputable def xn (r : FVec F S64x1 .f32) (v : Vec F S64x128 .bf16) (w : Vec F S1x128 .f32) : FVec F S64x128 .f32 :=
  mulf (mulf (extf .f32 (shapeCast S64x128 v shapeCasts_S64x128_S64x128 : FVec F S64x128 .bf16) bitsLt_bf16_f32) (broadcastTo S64x128 r broadcasts_S64x1_S64x128))
    (broadcastTo S64x128 (shapeCast S1x128 w shapeCasts_S1x128_S1x128 : FVec F S1x128 .f32) broadcasts_S1x128_S64x128)

noncomputable def zOf (x : FVec F S64x128 .f32) : FVec F S64x128 .f32 :=
  mulf (broadcastTo S64x128 (shapeCast S64x1 (shapeCast S64x1
      (multiReduction .maximumf [1] S64 (absf x) 0xFF800000#32 reduces_S64x128_S64 (.inl rfl) rfl) shapeCasts_S64_S64x1 : FVec F S64x1 .f32) shapeCasts_S64x1_S64x1 : FVec F S64x1 .f32) broadcasts_S64x1_S64x128)
    (broadcast S64x128 (Scalar.ofBits .f32 0x3B124925#32 : F .f32))

noncomputable def step (b : BitVec 32) (z : FVec F S64x128 .f32) (f : IVec S64x128 32) : IVec S64x128 32 :=
  select (cmpf .oge z (bitcastToFloat .f32 (shli (addi f (broadcast S64x128 b)) (broadcast S64x128 23#32)))) (addi f (broadcast S64x128 b)) f

noncomputable def field (z : FVec F S64x128 .f32) : IVec S64x128 32 :=
  step 1#32 z (step 2#32 z (step 4#32 z (step 8#32 z (step 16#32 z (step 32#32 z (step 64#32 z (step 128#32 z (broadcast S64x128 0#32))))))))

noncomputable def expo (z : FVec F S64x128 .f32) : IVec S64x128 32 :=
  select (ori (cmpi .eq (field z) (broadcast S64x128 0#32)) (cmpi .eq (field z) (broadcast S64x128 255#32)))
    (broadcast S64x128 0#32) (subi (field z) (broadcast S64x128 126#32))

noncomputable def pow2 (e : IVec S64x128 32) : FVec F S64x128 .f32 :=
  bitcastToFloat .f32 (shli (addi e (broadcast S64x128 127#32)) (broadcast S64x128 23#32))

noncomputable def scaleOf (x : FVec F S64x128 .f32) : FVec F S64x128 .f32 := pow2 (expo (zOf x))

noncomputable def codesOf (x : FVec F S64x128 .f32) : FVec F S64x128 .fp8e4m3 :=
  truncf .fp8e4m3 (minimumf (broadcast S64x128 (Scalar.ofBits .f32 0x43E00000#32 : F .f32))
    (maximumf (broadcast S64x128 (Scalar.ofBits .f32 0xC3E00000#32 : F .f32))
      (mulf x (pow2 (subi (broadcast S64x128 0#32) (expo (zOf x))))))) bitsLt_fp8e4m3_f32

noncomputable def xaOf (x : FVec F S64x128 .f32) : FVec F S64x128 .bf16 :=
  truncf .bf16 (mulf (extf .f32 (codesOf x) bitsLt_fp8e4m3_f32) (scaleOf x)) bitsLt_bf16_f32

theorem inb (n : Nat) (h : n + 1 ≤ 128) : ∀ a, (![0, n * 128] : Fin 2 → Nat) a + S64x128.size a ≤ S64x16384.size a := by
  intro a; fin_cases a <;> simp [S64x128, S64x16384] <;> omega
theorem inbw (n : Nat) (h : n + 1 ≤ 128) : ∀ a, (![0, n * 128] : Fin 2 → Nat) a + S1x128.size a ≤ S1x16384.size a := by
  intro a; fin_cases a <;> simp [S1x128, S1x16384] <;> omega

/-- Group `n` normalised, of a block of rows. -/
noncomputable def grp (x0 : Vec F S64x16384 .bf16) (x1 : Vec F S1x16384 .f32) (n : Nat) (h : n + 1 ≤ 128) : FVec F S64x128 .f32 :=
  xn (k0_pay4 (View.ld x0 r0_0))
    (View.ld x0 (Rect.unit (s := S64x16384) ![0, n * 128] S64x128.size (inb n h)))
    (View.ld x1 (Rect.unit (s := S1x16384) ![0, n * 128] S1x128.size (inbw n h)))

noncomputable def pieces {e : EltTy} (P : FVec F S64x128 .f32 → Vec F S64x128 e) (x0 : Vec F S64x16384 .bf16) (x1 : Vec F S1x16384 .f32) :
    (n : Nat) → n ≤ 128 → List (View.Piece (Elt F) S64x16384 e)
  | 0, _ => []
  | n + 1, h => ⟨Rect.unit (s := S64x16384) ![0, n * 128] S64x128.size (inb n h), P (grp x0 x1 n h)⟩ ::
      pieces P x0 x1 n (Nat.le_of_succ_le h)

set_option maxRecDepth 100000 in
set_option maxHeartbeats 4000000 in
theorem out2_eq (x0 : Vec F S64x16384 .bf16) (x1 : Vec F S1x16384 .f32) :
    out0_2 x0 x1 = View.canon (pieces (e := .fp8e4m3) codesOf x0 x1 128 (le_refl _)) := rfl

set_option maxRecDepth 100000 in
set_option maxHeartbeats 4000000 in
theorem out4_eq (x0 : Vec F S64x16384 .bf16) (x1 : Vec F S1x16384 .f32) :
    out0_4 x0 x1 = View.canon (pieces (e := .bf16) xaOf x0 x1 128 (le_refl _)) := rfl

noncomputable def scales (x0 : Vec F S64x16384 .bf16) (x1 : Vec F S1x16384 .f32) : (n : Nat) → n ≤ 128 → FVec F S64x128 .f32
  | 0, _ => broadcast S64x128 (Scalar.ofBits .f32 0x00000000#32 : F .f32)
  | n + 1, h => select (cmpi .eq (iota .tc S64x128 32 [1] iota_S64x128_d1_w32) (broadcast S64x128 (BitVec.ofNat 32 n)))
      (scaleOf (grp x0 x1 n h)) (scales x0 x1 n (Nat.le_of_succ_le h))

set_option maxRecDepth 100000 in
set_option maxHeartbeats 4000000 in
theorem out3_eq (x0 : Vec F S64x16384 .bf16) (x1 : Vec F S1x16384 .f32) :
    out0_3 x0 x1 = View.canon [⟨r0_257, scales x0 x1 128 (le_refl _)⟩] := rfl

end Cert.QuantIdeal.Body
-- ==== Proof.QuantBody.lean ====
/-
  The pieces of the quantising body, element by element.
-/
module

public import proofs.«01_k».proof.Proof.QuantVec
public import proofs.«01_k».proof.Proof.QuantBound

@[expose] public section

set_option maxRecDepth 16384

noncomputable section

namespace Cert.QuantIdeal.Body

open Idealize Idealize.ShloMosaic Cert.QuantIdeal Cert.QuantIdeal.Gen

theorem rms_apply (x0 : Vec Ideal S64x16384 .bf16) (i : Fin 64) :
    (k0_pay4 x0 (ix2 i 0) : EReal) = QuantNum.rms (fun k => x0 (ix2 i k)) := by
  pointwise [k0_pay4]
  rfl

attribute [local irreducible] k0_pay4

theorem xn_apply (r : FVec Ideal S64x1 .f32) (v : Vec Ideal S64x128 .bf16) (w : Vec Ideal S1x128 .f32) (i : Fin 64) (j : Fin 128) :
    (xn r v w (ix2 i j) : EReal) = v (ix2 i j) * r (ix2 i 0) * w (ix2 0 j) := by
  pointwise [xn]

attribute [local irreducible] xn

theorem zOf_apply (x : FVec Ideal S64x128 .f32) (i : Fin 64) (j : Fin 128) :
    (zOf x (ix2 i j) : EReal) = QuantNum.peak (fun j => x (ix2 i j)) := by
  pointwise [zOf]
  rfl

attribute [local irreducible] zOf

theorem step_apply (b : BitVec 32) (z : FVec Ideal S64x128 .f32) (f : IVec S64x128 32) (i : Fin 64) (j : Fin 128) :
    step b z f (ix2 i j) = QuantNum.step b (z (ix2 i j)) (f (ix2 i j)) := by
  rfl

attribute [local irreducible] step QuantNum.step

theorem field_apply (z : FVec Ideal S64x128 .f32) (i : Fin 64) (j : Fin 128) :
    field z (ix2 i j) = QuantNum.field (z (ix2 i j)) := by
  simp only [field, QuantNum.field, step_apply]
  rfl

attribute [local irreducible] field QuantNum.field

theorem expo_apply (z : FVec Ideal S64x128 .f32) (i : Fin 64) (j : Fin 128) :
    expo z (ix2 i j) = QuantNum.expo (z (ix2 i j)) := by
  unfold QuantNum.expo
  rw [← field_apply]
  rfl

attribute [local irreducible] expo QuantNum.expo

theorem pow2_apply (e : IVec S64x128 32) (i : Fin 64) (j : Fin 128) :
    (pow2 (F := Ideal) e (ix2 i j) : EReal) = QuantNum.pow2 (e (ix2 i j)) := by
  rfl

attribute [local irreducible] pow2 QuantNum.pow2

/-- The scale of a group of lanes. -/
theorem scaleOf_apply (x : FVec Ideal S64x128 .f32) (i : Fin 64) (j : Fin 128) :
    (scaleOf x (ix2 i j) : EReal) = QuantNum.pow2 (QuantNum.expo (QuantNum.peak (fun j => x (ix2 i j)))) := by
  unfold scaleOf
  rw [pow2_apply, expo_apply, zOf_apply]

/-- The codes of a group of lanes. -/
theorem codesOf_apply (x : FVec Ideal S64x128 .f32) (i : Fin 64) (j : Fin 128) :
    (codesOf x (ix2 i j) : EReal) = min (Ideal.ofBits .f32 0x43E00000#32) (max (Ideal.ofBits .f32 0xC3E00000#32)
      ((x (ix2 i j) : EReal) * QuantNum.pow2 (0#32 - QuantNum.expo (QuantNum.peak (fun j => x (ix2 i j)))))) := by
  pointwise [codesOf]
  rw [pow2_apply, ← zOf_apply x i j, ← expo_apply]
  rfl

attribute [local irreducible] scaleOf codesOf

theorem xaOf_apply (x : FVec Ideal S64x128 .f32) (i : Fin 64) (j : Fin 128) :
    (xaOf x (ix2 i j) : EReal) = (codesOf x (ix2 i j) : EReal) * scaleOf x (ix2 i j) := by
  pointwise [xaOf]

attribute [local irreducible] xaOf

/-- A row of a block. -/
def row (x0 : Vec Ideal S64x16384 .bf16) (i : Fin 64) (k : Fin 16384) : EReal := x0 (ix2 i k)

/-- The weights. -/
def wts (x1 : Vec Ideal S1x16384 .f32) (k : Fin 16384) : EReal := x1 (ix2 0 k)

theorem hz2 : (![0, 0] : Fin 2 → ℕ) = fun _ => 0 := by decide

theorem grp_apply (x0 : Vec Ideal S64x16384 .bf16) (x1 : Vec Ideal S1x16384 .f32) (n : ℕ) (h : n + 1 ≤ 128) (i : Fin 64) (j : Fin 128) :
    (grp x0 x1 n h (ix2 i j) : EReal) = QuantNum.nx (row x0 i) (wts x1) ⟨n * 128 + j.val, by omega⟩ := by
  unfold grp
  rw [xn_apply, View.ld_unit_zero (S := S64x16384) hz2, rms_apply]
  unfold QuantNum.nx
  have e0 : (View.ld x0 (Rect.unit (s := S64x16384) ![0, n * 128] S64x128.size (inb n h)) (ix2 i j) : EReal)
      = row x0 i ⟨n * 128 + j.val, by omega⟩ := by
    unfold View.ld row
    congr 1
    funext a
    apply Fin.ext
    match a with
    | ⟨0, _⟩ => show 0 + 1 * i.val = i.val; omega
    | ⟨1, _⟩ => show n * 128 + 1 * j.val = n * 128 + j.val; omega
  have e1 : (View.ld x1 (Rect.unit (s := S1x16384) ![0, n * 128] S1x128.size (inbw n h)) (ix2 0 j) : EReal)
      = wts x1 ⟨n * 128 + j.val, by omega⟩ := by
    unfold View.ld wts
    congr 1
    funext a
    apply Fin.ext
    match a with
    | ⟨0, _⟩ => rfl
    | ⟨1, _⟩ => show n * 128 + 1 * j.val = n * 128 + j.val; omega
  exact congrArg₂ (· * ·) (congrArg₂ (· * ·) e0 rfl) e1

attribute [local irreducible] grp

/-- The pieces that hold an index agree, so the array they make has their value there. -/
theorem canon_pieces {e : EltTy} (P : FVec Ideal S64x128 .f32 → Vec Ideal S64x128 e) (x0 : Vec Ideal S64x16384 .bf16) (x1 : Vec Ideal S1x16384 .f32)
    (G : Fin 64 → Fin 16384 → Elt Ideal e)
    (hP : ∀ (n : ℕ) (h : n + 1 ≤ 128) (i : Fin 64) (j : Fin 128), P (grp x0 x1 n h) (ix2 i j) = G i ⟨n * 128 + j.val, by omega⟩) :
    ∀ (n : ℕ) (h : n ≤ 128) (i : Fin 64) (k : Fin 16384), k.val < n * 128 → View.canon (pieces P x0 x1 n h) (ix2 i k) = G i k
  | 0, _, _, _, hk => by omega
  | n + 1, h, i, k, hk => by
    unfold pieces
    by_cases hc : n * 128 ≤ k.val
    · have e : (Rect.unit (s := S64x16384) ![0, n * 128] S64x128.size (inb n h)).emb (ix2 i ⟨k.val - n * 128, by omega⟩) = (ix2 i k : S64x16384.Idx) := by
        funext a
        apply Fin.ext
        match a with
        | ⟨0, _⟩ => show 0 + 1 * i.val = i.val; omega
        | ⟨1, _⟩ => show n * 128 + 1 * (k.val - n * 128) = k.val; omega
      rw [← e, View.canon_cons_emb, hP]
      congr 1
      apply Fin.ext
      show n * 128 + (k.val - n * 128) = k.val
      omega
    · rw [View.canon_cons_of_not_mem]
      · exact canon_pieces P x0 x1 G hP n (Nat.le_of_succ_le h) i k (by omega)
      · show ¬ (ix2 i k : S64x16384.Idx) ∈ (Rect.unit (s := S64x16384) ![0, n * 128] S64x128.size (inb n h)).set
        rw [Rect.mem_set_unit]
        intro hm
        exact hc (hm 1).1

theorem scales_apply (x0 : Vec Ideal S64x16384 .bf16) (x1 : Vec Ideal S1x16384 .f32) :
    ∀ (n : ℕ) (h : n ≤ 128) (i : Fin 64) (g : Fin 128) (hg : g.val < n),
      (scales x0 x1 n h (ix2 i g) : EReal) = scaleOf (grp x0 x1 g.val (by omega)) (ix2 i g)
  | 0, _, _, _, hg => by omega
  | n + 1, h, i, g, hg => by
    have hs : (scales x0 x1 (n + 1) h (ix2 i g) : EReal)
        = Scalar.select (IntOp.cmpi .eq (BitVec.ofNat 32 g.val) (BitVec.ofNat 32 n)) (scaleOf (grp x0 x1 n h) (ix2 i g))
            (scales x0 x1 n (Nat.le_of_succ_le h) (ix2 i g)) := by
      rw [scales]
      pointwise []
    rw [hs]
    by_cases hc : g.val = n
    · subst hc
      simp [Scalar.select, IntOp.cmpi]
    · have hne : ¬ BitVec.ofNat 32 g.val = BitVec.ofNat 32 n := by
        intro he
        have := congrArg BitVec.toNat he
        simp only [BitVec.toNat_ofNat] at this
        omega
      have := scales_apply x0 x1 n (Nat.le_of_succ_le h) i g (by omega)
      rw [← this]
      simp [Scalar.select, IntOp.cmpi, beq_false_of_ne hne]

end Cert.QuantIdeal.Body
-- ==== Proof.QuantBlock.lean ====
/-
  The blocks that the quantising body stores, element by element, for finite weights.
-/
module

public import proofs.«01_k».proof.Proof.QuantBody

@[expose] public section

set_option maxRecDepth 16384

noncomputable section

namespace Cert.QuantIdeal.Body

open Idealize Idealize.ShloMosaic Cert.QuantIdeal Cert.QuantIdeal.Gen

attribute [local irreducible] scaleOf codesOf xaOf grp QuantNum.nx QuantNum.expo QuantNum.pow2 QuantNum.scale QuantNum.inv QuantNum.peak

/-- The weights are finite f32 values. -/
def Small (W : Fin 16384 → EReal) : Prop := ∀ k, max (W k) (-W k) ≤ Ideal.ofBits .f32 0x7F7FFFFF#32

variable (x0 : Vec Ideal S64x16384 .bf16) (x1 : Vec Ideal S1x16384 .f32) (hW : Small (wts x1))

theorem peak_grp (n : ℕ) (h : n + 1 ≤ 128) (i : Fin 64) :
    QuantNum.peak (fun j => grp x0 x1 n h (ix2 i j)) = QuantNum.zz (row x0 i) (wts x1) ⟨n, by omega⟩ := by
  unfold QuantNum.zz
  exact congrArg QuantNum.peak (funext fun j => grp_apply x0 x1 n h i j)

include hW in
theorem scale_grp (n : ℕ) (h : n + 1 ≤ 128) (i : Fin 64) (j : Fin 128) :
    (scaleOf (grp x0 x1 n h) (ix2 i j) : EReal) = QuantNum.sc (row x0 i) (wts x1) ⟨n, by omega⟩ := by
  obtain ⟨h0, h1⟩ := QuantNum.zz_bounds (row x0 i) (wts x1) hW ⟨n, by omega⟩
  rw [scaleOf_apply, peak_grp, (QuantNum.scales_eq _ h0 h1).1]
  rfl

include hW in
theorem code_grp (n : ℕ) (h : n + 1 ≤ 128) (i : Fin 64) (j : Fin 128) :
    (codesOf (grp x0 x1 n h) (ix2 i j) : EReal) = QuantNum.code (row x0 i) (wts x1) ⟨n * 128 + j.val, by omega⟩ := by
  obtain ⟨h0, h1⟩ := QuantNum.zz_bounds (row x0 i) (wts x1) hW ⟨n, by omega⟩
  rw [codesOf_apply, peak_grp, (QuantNum.scales_eq _ h0 h1).2, grp_apply]
  have e : (⟨(n * 128 + j.val) / 128, by omega⟩ : Fin 128) = ⟨n, by omega⟩ := Fin.ext (by simp only []; omega)
  unfold QuantNum.code QuantNum.sc
  simp only [e]

include hW in
theorem xa_grp (n : ℕ) (h : n + 1 ≤ 128) (i : Fin 64) (j : Fin 128) :
    (xaOf (grp x0 x1 n h) (ix2 i j) : EReal) = QuantNum.xa (row x0 i) (wts x1) ⟨n * 128 + j.val, by omega⟩ := by
  rw [xaOf_apply, code_grp x0 x1 hW, scale_grp x0 x1 hW]
  have e : (⟨(n * 128 + j.val) / 128, by omega⟩ : Fin 128) = ⟨n, by omega⟩ := Fin.ext (by simp only []; omega)
  unfold QuantNum.xa
  simp only [e]

include hW in
/-- The codes of a block. -/
theorem out2_apply (i : Fin 64) (k : Fin 16384) : (out0_2 x0 x1 (ix2 i k) : EReal) = QuantNum.code (row x0 i) (wts x1) k := by
  rw [out2_eq]
  exact canon_pieces (e := .fp8e4m3) codesOf x0 x1 (fun i k => QuantNum.code (row x0 i) (wts x1) k) (fun n h i j => code_grp x0 x1 hW n h i j) 128 (le_refl _) i k (by omega)

include hW in
/-- The scales of a block. -/
theorem out3_apply (i : Fin 64) (g : Fin 128) : (out0_3 x0 x1 (ix2 i g) : EReal) = QuantNum.sc (row x0 i) (wts x1) g := by
  rw [out3_eq, View.canon_unit_zero hz2, scales_apply x0 x1 128 (le_refl _) i g g.isLt]
  exact scale_grp x0 x1 hW g.val _ i g

include hW in
/-- The elements of a block. -/
theorem out4_apply (i : Fin 64) (k : Fin 16384) : (out0_4 x0 x1 (ix2 i k) : EReal) = QuantNum.xa (row x0 i) (wts x1) k := by
  rw [out4_eq]
  exact canon_pieces (e := .bf16) xaOf x0 x1 (fun i k => QuantNum.xa (row x0 i) (wts x1) k) (fun n h i j => xa_grp x0 x1 hW n h i j) 128 (le_refl _) i k (by omega)

end Cert.QuantIdeal.Body
-- ==== Proof.QuantFinal.lean ====
/-
  The arrays that the quantising kernel ends with: its 96 blocks of rows put together.
-/
module

public import proofs.«01_k».proof.Proof.QuantBlock
public import proofs.«01_k».proof.Proof.Gen.QuantIdeal.Value

@[expose] public section

set_option maxRecDepth 16384

noncomputable section

namespace Cert.QuantIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantIdeal.Gen

/-- The rows' codes. -/
def Gc (X : Vec Ideal S6144x16384 .bf16) (W : Vec Ideal S1x16384 .f32) : Vec Ideal S6144x16384 .fp8e4m3 :=
  fun y => QuantNum.code (fun k => X (ix2 (y 0) k)) (fun k => W (ix2 0 k)) (y 1)
/-- The rows' scales. -/
def Gs (X : Vec Ideal S6144x16384 .bf16) (W : Vec Ideal S1x16384 .f32) : Vec Ideal S6144x128 .f32 :=
  fun y => QuantNum.sc (fun k => X (ix2 (y 0) k)) (fun k => W (ix2 0 k)) (y 1)
/-- The rows the codes and scales stand for. -/
def Ga (X : Vec Ideal S6144x16384 .bf16) (W : Vec Ideal S1x16384 .f32) : Vec Ideal S6144x16384 .bf16 :=
  fun y => QuantNum.xa (fun k => X (ix2 (y 0) k)) (fun k => W (ix2 0 k)) (y 1)

/-- The input's rows. -/
def flat (x : Vec Ideal S3x2048x16384 .bf16) : Vec Ideal S6144x16384 .bf16 := shapeCast S6144x16384 x (by decide)
/-- The weights as one row. -/
def line (w : Vec Ideal S16384 .f32) : Vec Ideal S1x16384 .f32 := shapeCast S1x16384 w (by decide)

theorem line_apply (w : Vec Ideal S16384 .f32) (k : Fin 16384) : ∃ j, (line w (ix2 0 k) : EReal) = w j := ⟨_, rfl⟩

variable (m : (ℓ : Loc nD τ sig) → Buf (Elt Ideal) ℓ)

/-- The arguments as the body reads them. -/
def Xa (c : Dev nD) : Vec Ideal S6144x16384 .bf16 := flat (m ((c : Thread nD τ).loc main_arg0))
def Wa (c : Dev nD) : Vec Ideal S1x16384 .f32 := line (m ((c : Thread nD τ).loc main_arg1))

theorem V_x (c : Dev nD) : (V m c main_v0 : Vec Ideal S6144x16384 .bf16) = Xa m c := by
  unfold V
  after_results
  rfl

theorem V_w (c : Dev nD) : (V m c main_v1 : Vec Ideal S1x16384 .f32) = Wa m c := by
  unfold V
  after_results
  rfl

theorem N_eq : cfg0.N = 96 := by decide

theorem coord0 (t : Fin cfg0.N) : (grid0.coords t 0).val = t.val / 1 % 96 := Pipeline.Grid.coords_val t 0 (by decide) rfl

theorem t_lt (t : Fin cfg0.N) : t.val < 96 := by have := t.isLt; have := N_eq; omega

theorem blk_of (t : Fin cfg0.N) : (BitVec.ofNat 32 (grid0.coords t 0).val).toNat = t.val := by
  have := t_lt t
  rw [coord0, BitVec.toNat_ofNat, Nat.mod_eq_of_lt (by omega)]; omega

/-- The row of the arrays a block's row is. -/
def grow (t : Fin cfg0.N) (i : Fin 64) : Fin 6144 := ⟨t.val * 64 + i.val, by have := t_lt t; omega⟩

theorem iblk0_apply (c : Dev nD) (t : Fin cfg0.N) (i : Fin 64) (k : Fin 16384) :
    (iblk m c 0 t (ix2 i k) : EReal) = Xa m c (ix2 (grow t i) k) := by
  unfold iblk
  rw [View.read_apply, ← V_x]
  show V m c main_v0 _ = V m c main_v0 _
  congr 1
  funext a
  apply Fin.ext
  match a with
  | ⟨0, _⟩ => show (BitVec.ofNat 32 (grid0.coords t 0).val).toNat * 64 + 1 * i.val = t.val * 64 + i.val; rw [blk_of]; omega
  | ⟨1, _⟩ => show 0 * 16384 + 1 * k.val = k.val; omega

theorem iblk1_apply (c : Dev nD) (t : Fin cfg0.N) (k : Fin 16384) :
    (iblk m c 1 t (ix2 0 k) : EReal) = Wa m c (ix2 0 k) := by
  unfold iblk
  rw [View.read_apply, ← V_w]
  show V m c main_v1 _ = V m c main_v1 _
  congr 1
  funext a
  apply Fin.ext
  match a with
  | ⟨0, _⟩ => rfl
  | ⟨1, _⟩ => show 0 * 16384 + 1 * k.val = k.val; omega

theorem row_eq (c : Dev nD) (t : Fin cfg0.N) (i : Fin 64) : row (iblk m c 0 t) i = fun k => Xa m c (ix2 (grow t i) k) :=
  funext fun k => iblk0_apply m c t i k

theorem wts_eq (c : Dev nD) (t : Fin cfg0.N) : wts (iblk m c 1 t) = fun k => Wa m c (ix2 0 k) :=
  funext fun k => iblk1_apply m c t k

attribute [local irreducible] Xa Wa QuantNum.code QuantNum.sc QuantNum.xa out0_2 out0_3 out0_4

variable (hW : ∀ c : Dev nD, Small (fun k => Wa m c (ix2 0 k)))

include hW in
theorem flushed2_eq (c : Dev nD) (t : Fin cfg0.N) :
    (dats m 0 c).flushed 2 t = ((cfg0.win 2).blk t).view.read (Elt Ideal) (Gc (Xa m c) (Wa m c)) := by
  rw [Cert.QuantIdeal.Value.flushed2]
  funext y
  rw [View.read_apply]
  obtain ⟨i, j, rfl⟩ : ∃ (i : Fin 64) (j : Fin 16384), y = ix2 i j := ⟨y 0, y 1, eq_ix2 y⟩
  refine (out2_apply (iblk m c 0 t) (iblk m c 1 t) (by rw [wts_eq]; exact hW c) i j).trans ?_
  rw [row_eq, wts_eq]
  refine Eq.trans ?_ (congrArg (Gc (Xa m c) (Wa m c)) (?_ : ix2 (grow t i) j = _))
  · rfl
  · funext a
    apply Fin.ext
    match a with
    | ⟨0, _⟩ => show t.val * 64 + i.val = (BitVec.ofNat 32 (grid0.coords t 0).val).toNat * 64 + 1 * i.val; rw [blk_of]; omega
    | ⟨1, _⟩ => show j.val = 0 * 16384 + 1 * j.val; omega

include hW in
theorem flushed3_eq (c : Dev nD) (t : Fin cfg0.N) :
    (dats m 0 c).flushed 3 t = ((cfg0.win 3).blk t).view.read (Elt Ideal) (Gs (Xa m c) (Wa m c)) := by
  rw [Cert.QuantIdeal.Value.flushed3]
  funext y
  rw [View.read_apply]
  obtain ⟨i, j, rfl⟩ : ∃ (i : Fin 64) (j : Fin 128), y = ix2 i j := ⟨y 0, y 1, eq_ix2 y⟩
  refine (out3_apply (iblk m c 0 t) (iblk m c 1 t) (by rw [wts_eq]; exact hW c) i j).trans ?_
  rw [row_eq, wts_eq]
  refine Eq.trans ?_ (congrArg (Gs (Xa m c) (Wa m c)) (?_ : ix2 (grow t i) j = _))
  · rfl
  · funext a
    apply Fin.ext
    match a with
    | ⟨0, _⟩ => show t.val * 64 + i.val = (BitVec.ofNat 32 (grid0.coords t 0).val).toNat * 64 + 1 * i.val; rw [blk_of]; omega
    | ⟨1, _⟩ => show j.val = 0 * 128 + 1 * j.val; omega

include hW in
theorem flushed4_eq (c : Dev nD) (t : Fin cfg0.N) :
    (dats m 0 c).flushed 4 t = ((cfg0.win 4).blk t).view.read (Elt Ideal) (Ga (Xa m c) (Wa m c)) := by
  rw [Cert.QuantIdeal.Value.flushed4]
  funext y
  rw [View.read_apply]
  obtain ⟨i, j, rfl⟩ : ∃ (i : Fin 64) (j : Fin 16384), y = ix2 i j := ⟨y 0, y 1, eq_ix2 y⟩
  refine (out4_apply (iblk m c 0 t) (iblk m c 1 t) (by rw [wts_eq]; exact hW c) i j).trans ?_
  rw [row_eq, wts_eq]
  refine Eq.trans ?_ (congrArg (Ga (Xa m c) (Wa m c)) (?_ : ix2 (grow t i) j = _))
  · rfl
  · funext a
    apply Fin.ext
    match a with
    | ⟨0, _⟩ => show t.val * 64 + i.val = (BitVec.ofNat 32 (grid0.coords t 0).val).toNat * 64 + 1 * i.val; rw [blk_of]; omega
    | ⟨1, _⟩ => show j.val = 0 * 16384 + 1 * j.val; omega

include hW in
/-- The codes' array. -/
theorem final2 (c : Dev nD) : (dats m 0 c).arrAt 2 cfg0.N = Gc (Xa m c) (Wa m c) :=
  (dats m 0 c).arrAt_eq_of_cover 2 (Gc (Xa m c) (Wa m c)) (fun t _ => flushed2_eq m hW c t) fun (y : S6144x16384.Idx) => by
    have h0 : (y 0).val < 6144 := (y 0).isLt
    have h1 : (y 1).val < 16384 := (y 1).isLt
    have hN := N_eq
    have hf : ∀ t : Fin cfg0.N, (cfg0.win 2).flush t = true := by decide
    obtain ⟨t, ht⟩ : ∃ t : Fin cfg0.N, t.val = (y 0).val / 64 := ⟨⟨(y 0).val / 64, by omega⟩, rfl⟩
    refine ⟨t, hf t, ?_⟩
    show y ∈ ((View.whole main_v2_0).slice (win0_2.rect t)).set
    rw [View.set_slice_whole, Rect.mem_set_unit]
    intro a
    match a with
    | ⟨0, _⟩ => show (BitVec.ofNat 32 (grid0.coords t 0).val).toNat * 64 ≤ (y 0).val ∧ (y 0).val < (BitVec.ofNat 32 (grid0.coords t 0).val).toNat * 64 + 64; rw [blk_of]; omega
    | ⟨1, _⟩ => show 0 * 16384 ≤ (y 1).val ∧ (y 1).val < 0 * 16384 + 16384; omega

include hW in
/-- The scales' array. -/
theorem final3 (c : Dev nD) : (dats m 0 c).arrAt 3 cfg0.N = Gs (Xa m c) (Wa m c) :=
  (dats m 0 c).arrAt_eq_of_cover 3 (Gs (Xa m c) (Wa m c)) (fun t _ => flushed3_eq m hW c t) fun (y : S6144x128.Idx) => by
    have h0 : (y 0).val < 6144 := (y 0).isLt
    have h1 : (y 1).val < 128 := (y 1).isLt
    have hN := N_eq
    have hf : ∀ t : Fin cfg0.N, (cfg0.win 3).flush t = true := by decide
    obtain ⟨t, ht⟩ : ∃ t : Fin cfg0.N, t.val = (y 0).val / 64 := ⟨⟨(y 0).val / 64, by omega⟩, rfl⟩
    refine ⟨t, hf t, ?_⟩
    show y ∈ ((View.whole main_v2_1).slice (win0_3.rect t)).set
    rw [View.set_slice_whole, Rect.mem_set_unit]
    intro a
    match a with
    | ⟨0, _⟩ => show (BitVec.ofNat 32 (grid0.coords t 0).val).toNat * 64 ≤ (y 0).val ∧ (y 0).val < (BitVec.ofNat 32 (grid0.coords t 0).val).toNat * 64 + 64; rw [blk_of]; omega
    | ⟨1, _⟩ => show 0 * 128 ≤ (y 1).val ∧ (y 1).val < 0 * 128 + 128; omega

include hW in
/-- The array of the elements the codes and scales stand for. -/
theorem final4 (c : Dev nD) : (dats m 0 c).arrAt 4 cfg0.N = Ga (Xa m c) (Wa m c) :=
  (dats m 0 c).arrAt_eq_of_cover 4 (Ga (Xa m c) (Wa m c)) (fun t _ => flushed4_eq m hW c t) fun (y : S6144x16384.Idx) => by
    have h0 : (y 0).val < 6144 := (y 0).isLt
    have h1 : (y 1).val < 16384 := (y 1).isLt
    have hN := N_eq
    have hf : ∀ t : Fin cfg0.N, (cfg0.win 4).flush t = true := by decide
    obtain ⟨t, ht⟩ : ∃ t : Fin cfg0.N, t.val = (y 0).val / 64 := ⟨⟨(y 0).val / 64, by omega⟩, rfl⟩
    refine ⟨t, hf t, ?_⟩
    show y ∈ ((View.whole main_v2_2).slice (win0_4.rect t)).set
    rw [View.set_slice_whole, Rect.mem_set_unit]
    intro a
    match a with
    | ⟨0, _⟩ => show (BitVec.ofNat 32 (grid0.coords t 0).val).toNat * 64 ≤ (y 0).val ∧ (y 0).val < (BitVec.ofNat 32 (grid0.coords t 0).val).toNat * 64 + 64; rw [blk_of]; omega
    | ⟨1, _⟩ => show 0 * 16384 ≤ (y 1).val ∧ (y 1).val < 0 * 16384 + 16384; omega

end Cert.QuantIdeal.Body

end
-- ==== Proof.QuantRefFinal.lean ====
/-
  The arrays the quantising reference ends with: its one point reads the whole arguments, so they are the kernel's.
-/
module

public import proofs.«01_k».proof.Proof.QuantRefBody
public import proofs.«01_k».proof.Proof.QuantFinal

@[expose] public section

set_option maxRecDepth 16384

noncomputable section

namespace Cert.QuantReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantReferenceIdeal.Gen

open Cert.QuantIdeal.Body (Gc Gs Ga flat line)

variable (m : (ℓ : Loc nD τ sig) → Buf (Elt Ideal) ℓ)

/-- The arguments as the body reads them. -/
def Xr (c : Dev nD) : Vec Ideal S6144x16384 .bf16 := flat (m ((c : Thread nD τ).loc main_arg0))
def Wr (c : Dev nD) : Vec Ideal S1x16384 .f32 := line (m ((c : Thread nD τ).loc main_arg1))

theorem V_x (c : Dev nD) : (V m c main_v0 : Vec Ideal S6144x16384 .bf16) = Xr m c := by
  unfold V
  after_results
  rfl

theorem V_w (c : Dev nD) : (V m c main_v1 : Vec Ideal S1x16384 .f32) = Wr m c := by
  unfold V
  after_results
  rfl

theorem iblk0_eq (c : Dev nD) (t : Fin cfg0.N) : (iblk m c 0 t : Vec Ideal S6144x16384 .bf16) = Xr m c := by
  funext (y : S6144x16384.Idx)
  unfold iblk
  rw [View.read_apply, ← V_x]
  show V m c main_v0 _ = V m c main_v0 y
  congr 1
  funext a
  apply Fin.ext
  match a with
  | ⟨0, _⟩ => show 0 * 6144 + 1 * (y 0).val = (y 0).val; omega
  | ⟨1, _⟩ => show 0 * 16384 + 1 * (y 1).val = (y 1).val; omega

theorem iblk1_eq (c : Dev nD) (t : Fin cfg0.N) : (iblk m c 1 t : Vec Ideal S1x16384 .f32) = Wr m c := by
  funext (y : S1x16384.Idx)
  unfold iblk
  rw [View.read_apply, ← V_w]
  show V m c main_v1 _ = V m c main_v1 y
  congr 1
  funext a
  apply Fin.ext
  match a with
  | ⟨0, _⟩ => show 0 * 1 + 1 * (y 0).val = (y 0).val; omega
  | ⟨1, _⟩ => show 0 * 16384 + 1 * (y 1).val = (y 1).val; omega

attribute [local irreducible] Xr Wr QuantNum.code QuantNum.sc QuantNum.xa out0_2 out0_3 out0_4

/-- What the reference's one point writes back to the codes' array. -/
theorem flushed2_eq (c : Dev nD) (t : Fin cfg0.N) :
    (dats m 0 c).flushed 2 t = ((cfg0.win 2).blk t).view.read (Elt Ideal) (Gc (Xr m c) (Wr m c)) := by
  rw [Cert.QuantReferenceIdeal.Value.flushed2, iblk0_eq, iblk1_eq]
  funext y
  rw [View.read_apply]
  obtain ⟨i, j, rfl⟩ : ∃ (i : Fin 6144) (j : Fin 16384), y = ix2 i j := ⟨y 0, y 1, eq_ix2 y⟩
  refine (out2_apply (Xr m c) (Wr m c) i j).trans ?_
  refine Eq.trans ?_ (congrArg (Gc (Xr m c) (Wr m c)) (?_ : ix2 i j = _))
  · rfl
  · funext a
    apply Fin.ext
    match a with
    | ⟨0, _⟩ => show i.val = 0 * 6144 + 1 * i.val; omega
    | ⟨1, _⟩ => show j.val = 0 * 16384 + 1 * j.val; omega

/-- And to the scales' array. -/
theorem flushed3_eq (c : Dev nD) (t : Fin cfg0.N) :
    (dats m 0 c).flushed 3 t = ((cfg0.win 3).blk t).view.read (Elt Ideal) (Gs (Xr m c) (Wr m c)) := by
  rw [Cert.QuantReferenceIdeal.Value.flushed3, iblk0_eq, iblk1_eq]
  funext y
  rw [View.read_apply]
  obtain ⟨i, j, rfl⟩ : ∃ (i : Fin 6144) (j : Fin 128), y = ix2 i j := ⟨y 0, y 1, eq_ix2 y⟩
  refine (out3_apply (Xr m c) (Wr m c) i j).trans ?_
  refine Eq.trans ?_ (congrArg (Gs (Xr m c) (Wr m c)) (?_ : ix2 i j = _))
  · rfl
  · funext a
    apply Fin.ext
    match a with
    | ⟨0, _⟩ => show i.val = 0 * 6144 + 1 * i.val; omega
    | ⟨1, _⟩ => show j.val = 0 * 128 + 1 * j.val; omega

/-- And to the third array. -/
theorem flushed4_eq (c : Dev nD) (t : Fin cfg0.N) :
    (dats m 0 c).flushed 4 t = ((cfg0.win 4).blk t).view.read (Elt Ideal) (Ga (Xr m c) (Wr m c)) := by
  rw [Cert.QuantReferenceIdeal.Value.flushed4, iblk0_eq, iblk1_eq]
  funext y
  rw [View.read_apply]
  obtain ⟨i, j, rfl⟩ : ∃ (i : Fin 6144) (j : Fin 16384), y = ix2 i j := ⟨y 0, y 1, eq_ix2 y⟩
  refine (out4_apply (Xr m c) (Wr m c) i j).trans ?_
  refine Eq.trans ?_ (congrArg (Ga (Xr m c) (Wr m c)) (?_ : ix2 i j = _))
  · rfl
  · funext a
    apply Fin.ext
    match a with
    | ⟨0, _⟩ => show i.val = 0 * 6144 + 1 * i.val; omega
    | ⟨1, _⟩ => show j.val = 0 * 16384 + 1 * j.val; omega

/-- The reference's codes. -/
theorem final2 (c : Dev nD) : (dats m 0 c).arrAt 2 cfg0.N = Gc (Xr m c) (Wr m c) :=
  (dats m 0 c).arrAt_eq_of_cover 2 (Gc (Xr m c) (Wr m c)) (fun t _ => flushed2_eq m c t) fun (y : S6144x16384.Idx) => by
    have h0 : (y 0).val < 6144 := (y 0).isLt
    have h1 : (y 1).val < 16384 := (y 1).isLt
    obtain ⟨t, ht⟩ : ∃ t : Fin cfg0.N, (cfg0.win 2).flush t = true := ⟨⟨0, by decide⟩, by decide⟩
    refine ⟨t, ht, ?_⟩
    show y ∈ ((View.whole main_v2_0).slice (win0_2.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 16384 ≤ (y 1).val ∧ (y 1).val < 0 * 16384 + 16384; omega

/-- The reference's scales. -/
theorem final3 (c : Dev nD) : (dats m 0 c).arrAt 3 cfg0.N = Gs (Xr m c) (Wr m c) :=
  (dats m 0 c).arrAt_eq_of_cover 3 (Gs (Xr m c) (Wr m c)) (fun t _ => flushed3_eq m c t) fun (y : S6144x128.Idx) => by
    have h0 : (y 0).val < 6144 := (y 0).isLt
    have h1 : (y 1).val < 128 := (y 1).isLt
    obtain ⟨t, ht⟩ : ∃ t : Fin cfg0.N, (cfg0.win 3).flush t = true := ⟨⟨0, by decide⟩, by decide⟩
    refine ⟨t, ht, ?_⟩
    show y ∈ ((View.whole main_v2_1).slice (win0_3.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 128 ≤ (y 1).val ∧ (y 1).val < 0 * 128 + 128; omega

/-- The rows the reference's codes and scales stand for. -/
theorem final4 (c : Dev nD) : (dats m 0 c).arrAt 4 cfg0.N = Ga (Xr m c) (Wr m c) :=
  (dats m 0 c).arrAt_eq_of_cover 4 (Ga (Xr m c) (Wr m c)) (fun t _ => flushed4_eq m c t) fun (y : S6144x16384.Idx) => by
    have h0 : (y 0).val < 6144 := (y 0).isLt
    have h1 : (y 1).val < 16384 := (y 1).isLt
    obtain ⟨t, ht⟩ : ∃ t : Fin cfg0.N, (cfg0.win 4).flush t = true := ⟨⟨0, by decide⟩, by decide⟩
    refine ⟨t, ht, ?_⟩
    show y ∈ ((View.whole main_v2_2).slice (win0_4.rect t)).set
    rw [View.set_slice_whole, Rect.mem_set_unit]
    intro a
    match a with
    | ⟨0, _⟩ => show 0 * 6144 ≤ (y 0).val ∧ (y 0).val < 0 * 6144 + 6144; omega
    | ⟨1, _⟩ => show 0 * 16384 ≤ (y 1).val ∧ (y 1).val < 0 * 16384 + 16384; omega

end Cert.QuantReferenceIdeal.Body

end
-- ==== Proof.QuantClaims.lean ====
/-
  The claim that the quantising kernel and its reference compute the same codes, scales and rows over the extended reals.
-/
module

public import proofs.«01_k».proof.Proof.QuantRefFinal
public import proofs.«01_k».proof.Proof.Gen.Pre_finite_weight
public import proofs.«01_k».proof.Defs

@[expose] public section

set_option maxRecDepth 16384

noncomputable section

namespace Cert.Proof

open Idealize.ShloMosaic Idealize.ShloMosaic.TcCoe Idealize.SL.Sem

/-- What the precondition says of a weight. -/
theorem weight_le (x : Vec Ideal Cert.Pre_finite_weight.S3x2048x16384 .bf16) (w : Vec Ideal Cert.Pre_finite_weight.S16384 .f32)
    (h : Cert.Pre_finite_weight.fn (F := Ideal) x w = fun _ => 1#1) (i : Cert.Pre_finite_weight.S16384.Idx) :
    max (w i : EReal) (-(w i : EReal)) ≤ Ideal.ofBits .f32 0x7F7FFFFF#32 := by
  have h1 : Ideal.cmp .ole (max (w i : EReal) (-(w i : EReal))) (Ideal.ofBits .f32 0x7F7FFFFF#32) = 1#1 := congrFun h i
  by_contra hc
  rw [Ideal.cmp, decide_eq_false hc] at h1
  exact absurd h1 (by decide)

/-- Under the precondition the kernel's weights are finite. -/
theorem small_weight (m : (ℓ : Loc Cert.QuantIdeal.nD Cert.QuantIdeal.τ Cert.QuantIdeal.sig) → Buf (Elt Ideal) ℓ)
    (h : Cert.Pre_QuantIdeal_finite_weight m) (c : Dev Cert.QuantIdeal.nD) :
    Cert.QuantIdeal.Body.Small (fun k => Cert.QuantIdeal.Body.Wa m c (ix2 0 k)) := by
  intro k
  obtain ⟨j, hj⟩ := Cert.QuantIdeal.Body.line_apply (m ((c : Thread Cert.QuantIdeal.nD Cert.QuantIdeal.τ).loc Cert.QuantIdeal.main_arg1)) k
  have hk : (Cert.QuantIdeal.Body.Wa m c (ix2 0 k) : EReal) = _ := hj
  simp only [hk]
  exact weight_le _ _ (h c) j

/-- The quantising kernel and its reference, from equal arguments with finite weights, end with equal codes, scales and rows. -/
theorem quant_algebraic : Cert.algebraic_QuantIdeal_QuantReferenceIdeal_pre_finite_weight := by
  intro m ρ m' ρ' hpre hagree
  have hW := small_weight m hpre
  refine ⟨fun c => (Cert.QuantIdeal.Gen.dats m 0 c).arrAt 2 Cert.QuantIdeal.cfg0.N,
    fun c => (Cert.QuantIdeal.Gen.dats m 0 c).arrAt 3 Cert.QuantIdeal.cfg0.N,
    fun c => (Cert.QuantIdeal.Gen.dats m 0 c).arrAt 4 Cert.QuantIdeal.cfg0.N, ?_, ?_⟩
  · exact Cert.QuantIdeal.Value.run_blocks m ρ
  · refine (θ_run Cert.QuantReferenceIdeal.defs _ _).mono (fun _ h c => ?_) (Cert.QuantReferenceIdeal.Value.run_blocks m' ρ')
    obtain ⟨h2, h3, h4, hargs⟩ := h c
    obtain ⟨a0, a1⟩ := hagree c
    have e0 : Cert.QuantReferenceIdeal.Body.Xr m' c = Cert.QuantIdeal.Body.Xa m c := congrArg Cert.QuantIdeal.Body.flat a0
    have e1 : Cert.QuantReferenceIdeal.Body.Wr m' c = Cert.QuantIdeal.Body.Wa m c := congrArg Cert.QuantIdeal.Body.line a1
    have f2 := Cert.QuantReferenceIdeal.Body.final2 m' c
    have f3 := Cert.QuantReferenceIdeal.Body.final3 m' c
    have f4 := Cert.QuantReferenceIdeal.Body.final4 m' c
    rw [e0, e1] at f2 f3 f4
    exact ⟨h2.trans (f2.trans (Cert.QuantIdeal.Body.final2 m hW c).symm), h3.trans (f3.trans (Cert.QuantIdeal.Body.final3 m hW c).symm),
      h4.trans (f4.trans (Cert.QuantIdeal.Body.final4 m hW c).symm), hargs⟩

end Cert.Proof

end
-- ==== Proof.BitsRuns.lean ====
/-
  What the five runs of the projection kernel's body share: the body's four branch conditions in closed form over
  the grid points, where the windows are idle, and the names of the staging and scratch memrefs.
-/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have i1 + 73 ≤ 12·i2 — decided over the grid. -/
theorem hcond0_1 : ∀ t : Fin cfg0.N, cond0_1 (grid0.coords t) ↔ t.val / 8 % 14 + 73 ≤ 12 * (t.val % 8) :=
  (by decide +kernel : ∀ t : Fin grid0.N, cond0_1 (grid0.coords t) ↔ t.val / 8 % 14 + 73 ≤ 12 * (t.val % 8))

/-- The condition of the body's `scf.if` 2 (`k0_h3`), from the grid coordinates (the skeleton's scalar
    chain substituted). -/
abbrev cond0_2 (i : grid0.Coords) : Prop := k0_cond3 i = 1#1
/-- It holds at the points ≡ 103 (mod 112) — by arithmetic of the point. -/
theorem hcond0_2 : ∀ t : Fin cfg0.N, cond0_2 (grid0.coords t) ↔ t.val % 112 = 103 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_2, k0_cond3, e0, e1, e2]
    word_cmp
   : ∀ t : Fin grid0.N, cond0_2 (grid0.coords t) ↔ t.val % 112 = 103)

/-- The condition of the body's `scf.if` 3 (`k0_h4`), from the grid coordinates (the skeleton's scalar
    chain substituted). -/
abbrev cond0_3 (i : grid0.Coords) : Prop := k0_cond4 i = 1#1
/-- It holds at the points ≡ 111 (mod 112) — by arithmetic of the point. -/
theorem hcond0_3 : ∀ t : Fin cfg0.N, cond0_3 (grid0.coords t) ↔ t.val % 112 = 111 :=
  (fun t => by
    have ht : t.val < 672 := Nat.lt_of_lt_of_eq t.isLt N_0
    have e0 : (grid0.coords t 0).val = t.val / 112 % 6 := Pipeline.Grid.coords_val t 0 (by decide) rfl
    have e1 : (grid0.coords t 1).val = t.val / 8 % 14 := Pipeline.Grid.coords_val t 1 (by decide) rfl
    have e2 : (grid0.coords t 2).val = t.val / 1 % 8 := Pipeline.Grid.coords_val t 2 (by decide) rfl
    simp only [cond0_3, k0_cond4, e0, e1, e2]
    word_cmp
   : ∀ t : Fin grid0.N, cond0_3 (grid0.coords t) ↔ t.val % 112 = 111)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1280 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1280 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1280 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1280 .f32 := Memref.whole cc0_scratch0
/-- The scratch `arg11` the kernel carries between points, as a view: what it holds is stated through it. -/
abbrev VS0_0 : View sig .tc .vmem S1024x1280 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BitsBlocks.lean ====
/-
  The blocks one grid point computes, as functions of the blocks it reads: the partial sum after one reduction step, the
  pieces the rotated query and key blocks are stored in, and the pieces the value block is stored in.
-/
module

public import proofs.«01_k».proof.Proof.BitsRuns
public import Idealize.ShloMosaic.Lib.Pipeline.ValueKit.Tiles

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- The partial sum after one more reduction step: the activation block `x0` times the weight block `x1`, each group of
    128 weight rows scaled by its row of `x2`, added to the partial sum `xs`. -/
def accStep (x0 : Vec F S1024x2048 .bf16) (x1 : Vec F S2048x1280 .fp8e4m3) (x2 : Vec F S16x1280 .bf16) (xs : Vec F S1024x1280 .f32) :
    Vec F S1024x1280 .f32 :=
  k0_pay1 (k0_pay66
    (k0_pay55 (View.ld x1 (Rect.unit ![0, 0] S128x1280.size inb_S2048x1280_S128x1280_0_0)) (View.ld x2 (Rect.unit ![0, 0] S1x1280.size inb_S16x1280_S1x1280_0_0)))
    (k0_pay56 (View.ld x1 (Rect.unit ![128, 0] S128x1280.size inb_S2048x1280_S128x1280_128_0)) (View.ld x2 (Rect.unit ![1, 0] S1x1280.size inb_S16x1280_S1x1280_1_0)))
    (k0_pay57 (View.ld x1 (Rect.unit ![256, 0] S128x1280.size inb_S2048x1280_S128x1280_256_0)) (View.ld x2 (Rect.unit ![2, 0] S1x1280.size inb_S16x1280_S1x1280_2_0)))
    (k0_pay58 (View.ld x1 (Rect.unit ![384, 0] S128x1280.size inb_S2048x1280_S128x1280_384_0)) (View.ld x2 (Rect.unit ![3, 0] S1x1280.size inb_S16x1280_S1x1280_3_0)))
    (k0_pay59 (View.ld x1 (Rect.unit ![512, 0] S128x1280.size inb_S2048x1280_S128x1280_512_0)) (View.ld x2 (Rect.unit ![4, 0] S1x1280.size inb_S16x1280_S1x1280_4_0)))
    (k0_pay60 (View.ld x1 (Rect.unit ![640, 0] S128x1280.size inb_S2048x1280_S128x1280_640_0)) (View.ld x2 (Rect.unit ![5, 0] S1x1280.size inb_S16x1280_S1x1280_5_0)))
    (k0_pay61 (View.ld x1 (Rect.unit ![768, 0] S128x1280.size inb_S2048x1280_S128x1280_768_0)) (View.ld x2 (Rect.unit ![6, 0] S1x1280.size inb_S16x1280_S1x1280_6_0)))
    (k0_pay62 (View.ld x1 (Rect.unit ![896, 0] S128x1280.size inb_S2048x1280_S128x1280_896_0)) (View.ld x2 (Rect.unit ![7, 0] S1x1280.size inb_S16x1280_S1x1280_7_0)))
    (k0_pay63 (View.ld x1 (Rect.unit ![1024, 0] S128x1280.size inb_S2048x1280_S128x1280_1024_0)) (View.ld x2 (Rect.unit ![8, 0] S1x1280.size inb_S16x1280_S1x1280_8_0)))
    (k0_pay64 (View.ld x1 (Rect.unit ![1152, 0] S128x1280.size inb_S2048x1280_S128x1280_1152_0)) (View.ld x2 (Rect.unit ![9, 0] S1x1280.size inb_S16x1280_S1x1280_9_0)))
    (k0_pay65 (View.ld x1 (Rect.unit ![1280, 0] S128x1280.size inb_S2048x1280_S128x1280_1280_0)) (View.ld x2 (Rect.unit ![10, 0] S1x1280.size inb_S16x1280_S1x1280_10_0)))
    (View.ld x1 (Rect.unit ![1408, 0] S128x1280.size inb_S2048x1280_S128x1280_1408_0)) (View.ld x2 (Rect.unit ![11, 0] S1x1280.size inb_S16x1280_S1x1280_11_0))
    (View.ld x1 (Rect.unit ![1536, 0] S128x1280.size inb_S2048x1280_S128x1280_1536_0)) (View.ld x2 (Rect.unit ![12, 0] S1x1280.size inb_S16x1280_S1x1280_12_0))
    (View.ld x1 (Rect.unit ![1664, 0] S128x1280.size inb_S2048x1280_S128x1280_1664_0)) (View.ld x2 (Rect.unit ![13, 0] S1x1280.size inb_S16x1280_S1x1280_13_0))
    (View.ld x1 (Rect.unit ![1792, 0] S128x1280.size inb_S2048x1280_S128x1280_1792_0)) (View.ld x2 (Rect.unit ![14, 0] S1x1280.size inb_S16x1280_S1x1280_14_0))
    (View.ld x1 (Rect.unit ![1920, 0] S128x1280.size inb_S2048x1280_S128x1280_1920_0)) (View.ld x2 (Rect.unit ![15, 0] S1x1280.size inb_S16x1280_S1x1280_15_0))
    xs x0)

/-- The pieces a rotated block is stored in: eight groups of 128 rows of the finished sum `acc`, rotated with the same
    rows of the two tables. -/
def ropePieces (acc : Vec F S1024x1280 .f32) (x3 x4 : Vec F S1024x640 .f32) : List (View.Piece (Elt F) S1024x1280 .bf16) :=
  [⟨Rect.unit ![896, 0] S128x1280.size inb_S1024x1280_S128x1280_896_0, k0_pay2 (View.ld acc (Rect.unit ![896, 0] S128x1280.size inb_S1024x1280_S128x1280_896_0)) (View.ld x3 (Rect.unit ![896, 0] S128x640.size inb_S1024x640_S128x640_896_0)) (View.ld x4 (Rect.unit ![896, 0] S128x640.size inb_S1024x640_S128x640_896_0))⟩,
   ⟨Rect.unit ![768, 0] S128x1280.size inb_S1024x1280_S128x1280_768_0, k0_pay2 (View.ld acc (Rect.unit ![768, 0] S128x1280.size inb_S1024x1280_S128x1280_768_0)) (View.ld x3 (Rect.unit ![768, 0] S128x640.size inb_S1024x640_S128x640_768_0)) (View.ld x4 (Rect.unit ![768, 0] S128x640.size inb_S1024x640_S128x640_768_0))⟩,
   ⟨Rect.unit ![640, 0] S128x1280.size inb_S1024x1280_S128x1280_640_0, k0_pay2 (View.ld acc (Rect.unit ![640, 0] S128x1280.size inb_S1024x1280_S128x1280_640_0)) (View.ld x3 (Rect.unit ![640, 0] S128x640.size inb_S1024x640_S128x640_640_0)) (View.ld x4 (Rect.unit ![640, 0] S128x640.size inb_S1024x640_S128x640_640_0))⟩,
   ⟨Rect.unit ![512, 0] S128x1280.size inb_S1024x1280_S128x1280_512_0, k0_pay2 (View.ld acc (Rect.unit ![512, 0] S128x1280.size inb_S1024x1280_S128x1280_512_0)) (View.ld x3 (Rect.unit ![512, 0] S128x640.size inb_S1024x640_S128x640_512_0)) (View.ld x4 (Rect.unit ![512, 0] S128x640.size inb_S1024x640_S128x640_512_0))⟩,
   ⟨Rect.unit ![384, 0] S128x1280.size inb_S1024x1280_S128x1280_384_0, k0_pay2 (View.ld acc (Rect.unit ![384, 0] S128x1280.size inb_S1024x1280_S128x1280_384_0)) (View.ld x3 (Rect.unit ![384, 0] S128x640.size inb_S1024x640_S128x640_384_0)) (View.ld x4 (Rect.unit ![384, 0] S128x640.size inb_S1024x640_S128x640_384_0))⟩,
   ⟨Rect.unit ![256, 0] S128x1280.size inb_S1024x1280_S128x1280_256_0, k0_pay2 (View.ld acc (Rect.unit ![256, 0] S128x1280.size inb_S1024x1280_S128x1280_256_0)) (View.ld x3 (Rect.unit ![256, 0] S128x640.size inb_S1024x640_S128x640_256_0)) (View.ld x4 (Rect.unit ![256, 0] S128x640.size inb_S1024x640_S128x640_256_0))⟩,
   ⟨Rect.unit ![128, 0] S128x1280.size inb_S1024x1280_S128x1280_128_0, k0_pay2 (View.ld acc (Rect.unit ![128, 0] S128x1280.size inb_S1024x1280_S128x1280_128_0)) (View.ld x3 (Rect.unit ![128, 0] S128x640.size inb_S1024x640_S128x640_128_0)) (View.ld x4 (Rect.unit ![128, 0] S128x640.size inb_S1024x640_S128x640_128_0))⟩,
   ⟨Rect.unit ![0, 0] S128x1280.size inb_S1024x1280_S128x1280_0_0, k0_pay2 (View.ld acc (Rect.unit ![0, 0] S128x1280.size inb_S1024x1280_S128x1280_0_0)) (View.ld x3 (Rect.unit ![0, 0] S128x640.size inb_S1024x640_S128x640_0_0)) (View.ld x4 (Rect.unit ![0, 0] S128x640.size inb_S1024x640_S128x640_0_0))⟩]

/-- The pieces the value block is stored in: eight groups of 128 rows of the finished sum `acc`, cast. -/
def castPieces (acc : Vec F S1024x1280 .f32) : List (View.Piece (Elt F) S1024x1280 .bf16) :=
  [⟨Rect.unit ![896, 0] S128x1280.size inb_S1024x1280_S128x1280_896_0, k0_pay46 (View.ld acc (Rect.unit ![896, 0] S128x1280.size inb_S1024x1280_S128x1280_896_0))⟩,
   ⟨Rect.unit ![768, 0] S128x1280.size inb_S1024x1280_S128x1280_768_0, k0_pay46 (View.ld acc (Rect.unit ![768, 0] S128x1280.size inb_S1024x1280_S128x1280_768_0))⟩,
   ⟨Rect.unit ![640, 0] S128x1280.size inb_S1024x1280_S128x1280_640_0, k0_pay46 (View.ld acc (Rect.unit ![640, 0] S128x1280.size inb_S1024x1280_S128x1280_640_0))⟩,
   ⟨Rect.unit ![512, 0] S128x1280.size inb_S1024x1280_S128x1280_512_0, k0_pay46 (View.ld acc (Rect.unit ![512, 0] S128x1280.size inb_S1024x1280_S128x1280_512_0))⟩,
   ⟨Rect.unit ![384, 0] S128x1280.size inb_S1024x1280_S128x1280_384_0, k0_pay46 (View.ld acc (Rect.unit ![384, 0] S128x1280.size inb_S1024x1280_S128x1280_384_0))⟩,
   ⟨Rect.unit ![256, 0] S128x1280.size inb_S1024x1280_S128x1280_256_0, k0_pay46 (View.ld acc (Rect.unit ![256, 0] S128x1280.size inb_S1024x1280_S128x1280_256_0))⟩,
   ⟨Rect.unit ![128, 0] S128x1280.size inb_S1024x1280_S128x1280_128_0, k0_pay46 (View.ld acc (Rect.unit ![128, 0] S128x1280.size inb_S1024x1280_S128x1280_128_0))⟩,
   ⟨Rect.unit ![0, 0] S128x1280.size inb_S1024x1280_S128x1280_0_0, k0_pay46 (View.ld acc (Rect.unit ![0, 0] S128x1280.size inb_S1024x1280_S128x1280_0_0))⟩]

/-- The rotated block. -/
def ropeBlock (acc : Vec F S1024x1280 .f32) (x3 x4 : Vec F S1024x640 .f32) : Vec F S1024x1280 .bf16 := View.canon (ropePieces acc x3 x4)

/-- The value block. -/
def castBlock (acc : Vec F S1024x1280 .f32) : Vec F S1024x1280 .bf16 := View.canon (castPieces acc)

/-- The eight row groups cover the block. -/
theorem ropePieces_cover (acc : Vec F S1024x1280 .f32) (x3 x4 : Vec F S1024x640 .f32) : ∀ y, ∃ p ∈ ropePieces acc x3 x4, y ∈ p.1.set :=
  fun y => View.cover_of_tiled_head _ _ _ (by rfl) y

theorem castPieces_cover (acc : Vec F S1024x1280 .f32) : ∀ y, ∃ p ∈ castPieces acc, y ∈ p.1.set :=
  fun y => View.cover_of_tiled_head _ _ _ (by rfl) y

theorem hz : (![0, 0] : Fin 2 → Nat) = fun _ => 0 := funext fun a => by fin_cases a <;> rfl

/-- A store through the whole block writes every index. -/
theorem whole_mem (inb) (y : S1024x1280.Idx) : y ∈ (Rect.unit (s := S1024x1280) ![0, 0] ![1024, 1280] inb).set :=
  Rect.mem_set_unit.mpr fun a => by
    have := (y a).isLt
    fin_cases a
    · exact ⟨Nat.zero_le _, by simpa using this⟩
    · exact ⟨Nat.zero_le _, by simpa using this⟩

/-- One store through the whole block covers it. -/
theorem whole_cover (inb) (w : Vec F S1024x1280 .f32) :
    ∀ y, ∃ p ∈ [(⟨Rect.unit (s := S1024x1280) ![0, 0] ![1024, 1280] inb, w⟩ : View.Piece (Elt F) S1024x1280 .f32)], y ∈ p.1.set :=
  fun y => ⟨_, List.mem_cons_self, whole_mem inb y⟩

/-- A load of part of the block after one store through the whole of it reads the payload there. -/
theorem readCov_whole (v : View sig .tc .vmem S1024x1280 .f32) (inb) (w : Vec F S1024x1280 .f32) (r : Rect S1024x1280) :
    v.readCov [(⟨Rect.unit (s := S1024x1280) ![0, 0] ![1024, 1280] inb, w⟩ : View.Piece (Elt F) S1024x1280 .f32)] r.toLoadRect = View.ld w r := by
  rw [View.readCov_eq_canon_ld _ _ _ (whole_cover inb w), View.canon_unit_zero (S := S1024x1280) hz]

end Cert.Kernel.Body

end
-- ==== Proof.BitsRunA.lean ====
/-
  The run of the whole kernel body at a reset point (the reduction coordinate is 0): the accumulator is zeroed, then the first product is added. The other outputs' buffers are handed back as they were.
-/
module

public import proofs.«01_k».proof.Proof.BitsRuns

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body's run in case A, with the pieces its stores leave as the witness. -/
noncomputable def runA (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) :
    { L : List (View.Piece (Elt F) S1024x1280 .f32) //
      ∀ (y8 y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ f, arg11.view.loc (c : Thread nD τ) ↦[arg11.view.set]{fullShare} arg11.view.writes (Elt F) f L)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨?_, fun y8 y9 y10 E K => ?run⟩
  case run =>
    simp only [cc0_proj_eq_skeleton]; unfold cc0_proj_skel
    simp only [k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; iexact HS

end Cert.Kernel.Body

end
-- ==== Proof.BitsValsA.lean ====
/-
  What the run of case A (RunA.lean) stores, in terms of the block functions.
-/
module

public import proofs.«01_k».proof.Proof.BitsBlocks
public import proofs.«01_k».proof.Proof.BitsRunA

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- What the run leaves in the partial sum: one reduction step more. -/
theorem runA_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) :
    View.canon (runA c i arg3 harg3 arg4 harg4 arg5 harg5 arg6 harg6 arg7 harg7 arg8 harg8 arg9 harg9 arg10 harg10 arg11 harg11 hc0 hc1 hc2 hc3 x0 x1 x2 x3 x4).1 = accStep x0 x1 x2 k0_pay54 := by
  unfold runA; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runA_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) :
    ∀ y, ∃ p ∈ (runA c i arg3 harg3 arg4 harg4 arg5 harg5 arg6 harg6 arg7 harg7 arg8 harg8 arg9 harg9 arg10 harg10 arg11 harg11 hc0 hc1 hc2 hc3 x0 x1 x2 x3 x4).1, y ∈ p.1.set := by
  unfold runA; dsimp only
  exact fun y => ⟨_, List.mem_cons_self, whole_mem inb_S1024x1280_S1024x1280_0_0 y⟩

end Cert.Kernel.Body

end
-- ==== Proof.BitsRunB.lean ====
/-
  The run of the whole kernel body at a plain accumulation point: one product is added to the accumulator. The other outputs' buffers are handed back as they were.
-/
module

public import proofs.«01_k».proof.Proof.BitsRunA

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body's run in case B, with the pieces its stores leave as the witness. -/
noncomputable def runB (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .f32) //
      ∀ (y8 y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ owns (c : Thread nD τ) arg10 fullShare y10 ∗ (∃ f, arg11.view.loc (c : Thread nD τ) ↦[arg11.view.set]{fullShare} arg11.view.writes (Elt F) f L)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨?_, fun y8 y9 y10 E K => ?run⟩
  case run =>
    simp only [cc0_proj_eq_skeleton]; unfold cc0_proj_skel
    simp only [k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    iexists _; iexact HS

end Cert.Kernel.Body

end
-- ==== Proof.BitsValsB.lean ====
/-
  What the run of case B (RunB.lean) stores, in terms of the block functions.
-/
module

public import proofs.«01_k».proof.Proof.BitsBlocks
public import proofs.«01_k».proof.Proof.BitsRunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- What the run leaves in the partial sum: one reduction step more. -/
theorem runB_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runB c i arg3 harg3 arg4 harg4 arg5 harg5 arg6 harg6 arg7 harg7 arg8 harg8 arg9 harg9 arg10 harg10 arg11 harg11 hc0 hc1 hc2 hc3 x0 x1 x2 x3 x4 xs).1 = accStep x0 x1 x2 xs := by
  unfold runB; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runB_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runB c i arg3 harg3 arg4 harg4 arg5 harg5 arg6 harg6 arg7 harg7 arg8 harg8 arg9 harg9 arg10 harg10 arg11 harg11 hc0 hc1 hc2 hc3 x0 x1 x2 x3 x4 xs).1, y ∈ p.1.set := by
  unfold runB; dsimp only
  exact fun y => ⟨_, List.mem_cons_self, whole_mem inb_S1024x1280_S1024x1280_0_0 y⟩

end Cert.Kernel.Body

end
-- ==== Proof.BitsRunC.lean ====
/-
  The run of the whole kernel body at the last reduction step of a query column block: one product is added, then the rotated rows are stored into the query output. The other outputs' buffers are handed back as they were.
-/
module

public import proofs.«01_k».proof.Proof.BitsRunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body's run in case C, with the pieces its stores leave as the witness. -/
noncomputable def runC (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y9 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y9 ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L.1) ∗ owns (c : Thread nD τ) arg9 fullShare y9 ∗ owns (c : Thread nD τ) arg10 fullShare y10 ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y9 y10 E K => ?run⟩
  case run =>
    dsimp only
    simp only [cc0_proj_eq_skeleton]; unfold cc0_proj_skel
    simp only [k0_part16_eq_skeleton, k0_part17_eq_skeleton, k0_part18_eq_skeleton, k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [H6]
    · iexists _; isplitr; · ipureintro; exact hf6
      iexact H6
    isplitl [H7]
    · iexists _; isplitr; · ipureintro; exact hf7
      iexact H7
    iexists _; iexact HS

end Cert.Kernel.Body

end
-- ==== Proof.BitsValsC.lean ====
/-
  What the run of case C (RunC.lean) stores, in terms of the block functions.
-/
module

public import proofs.«01_k».proof.Proof.BitsBlocks
public import proofs.«01_k».proof.Proof.BitsRunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- What the run leaves in the partial sum: one reduction step more. -/
theorem runC_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runC c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runC; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runC_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runC c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runC; dsimp only
  exact fun y => ⟨_, List.mem_cons_self, whole_mem inb_S1024x1280_S1024x1280_0_0 y⟩

/-- The pieces the run stores its output block in. -/
theorem runC_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : cond0_1 i) (hc2 : ¬cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    (runC c i arg3 harg3 arg4 harg4 arg5 harg5 arg6 harg6 arg7 harg7 arg8 harg8 arg9 harg9 arg10 harg10 arg11 harg11 hc0 hc1 hc2 hc3 x0 x1 x2 x3 x4 xs).1.1 = ropePieces (accStep x0 x1 x2 xs) x3 x4 := by
  unfold runC; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.Kernel.Body

end
-- ==== Proof.BitsRunD.lean ====
/-
  The run of the whole kernel body at the last reduction step of the key column block: one product is added, then the rotated rows are stored into the key output. The other outputs' buffers are handed back as they were.
-/
module

public import proofs.«01_k».proof.Proof.BitsRunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body's run in case D, with the pieces its stores leave as the witness. -/
noncomputable def runD (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y8 y10 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ (∃ d, owns (c : Thread nD τ) arg9 fullShare d) ∗ owns (c : Thread nD τ) arg10 fullShare y10 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ (∃ f, arg9.view.loc (c : Thread nD τ) ↦[arg9.view.set]{fullShare} arg9.view.writes (Elt F) f L.1) ∗ owns (c : Thread nD τ) arg10 fullShare y10 ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y8 y10 E K => ?run⟩
  case run =>
    dsimp only
    simp only [cc0_proj_eq_skeleton]; unfold cc0_proj_skel
    simp only [k0_part16_eq_skeleton, k0_part17_eq_skeleton, k0_part18_eq_skeleton, k0_part14_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; iexact H6
    isplitl [H7]
    · iexists _; isplitr; · ipureintro; exact hf7
      iexact H7
    iexists _; iexact HS

end Cert.Kernel.Body

end
-- ==== Proof.BitsValsD.lean ====
/-
  What the run of case D (RunD.lean) stores, in terms of the block functions.
-/
module

public import proofs.«01_k».proof.Proof.BitsBlocks
public import proofs.«01_k».proof.Proof.BitsRunD

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- What the run leaves in the partial sum: one reduction step more. -/
theorem runD_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runD c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runD; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runD_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runD c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runD; dsimp only
  exact fun y => ⟨_, List.mem_cons_self, whole_mem inb_S1024x1280_S1024x1280_0_0 y⟩

/-- The pieces the run stores its output block in. -/
theorem runD_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : cond0_2 i) (hc3 : ¬cond0_3 i)
    (x0 : Vec F S1024x2048 .bf16) (x1 : Vec F S2048x1280 .fp8e4m3) (x2 : Vec F S16x1280 .bf16) (x3 x4 : Vec F S1024x640 .f32) (xs : Vec F S1024x1280 .f32) :
    (runD c i arg3 harg3 arg4 harg4 arg5 harg5 arg6 harg6 arg7 harg7 arg8 harg8 arg9 harg9 arg10 harg10 arg11 harg11 hc0 hc1 hc2 hc3 x0 x1 x2 x3 x4 xs).1.1 = ropePieces (accStep x0 x1 x2 xs) x3 x4 := by
  unfold runD; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.Kernel.Body

end
-- ==== Proof.BitsRunE.lean ====
/-
  The run of the whole kernel body at the last reduction step of the value column block: one product is added, then the rows are stored into the value output. The other outputs' buffers are handed back as they were.
-/
module

public import proofs.«01_k».proof.Proof.BitsRunD

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body's run in case E, with the pieces its stores leave as the witness. -/
noncomputable def runE (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 : Vec F S1024x640 .f32) (x4 : Vec F S1024x640 .f32) (xs : Vec F S1024x1280 .f32) :
    { L : List (View.Piece (Elt F) S1024x1280 .bf16) × List (View.Piece (Elt F) S1024x1280 .f32) //
      ∀ (y8 y9 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y8 ∗ owns (c : Thread nD τ) arg9 fullShare y9 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_proj i arg3 harg3 arg4 harg4 arg5 harg5 arg6 harg6 arg7 harg7 arg8 harg8 arg9 harg9 arg10 harg10 arg11 harg11) K } := by
  refine ⟨(?_, ?_), fun y8 y9 E K => ?run⟩
  case run =>
    dsimp only
    simp only [cc0_proj_eq_skeleton]; unfold cc0_proj_skel
    simp only [k0_part16_eq_skeleton, k0_part17_eq_skeleton, k0_part18_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [H7]
    · iexists _; iexact H7
    iexists _; iexact HS

end Cert.Kernel.Body

end
-- ==== Proof.BitsValsE.lean ====
/-
  What the run of case E (RunE.lean) stores, in terms of the block functions.
-/
module

public import proofs.«01_k».proof.Proof.BitsBlocks
public import proofs.«01_k».proof.Proof.BitsRunE

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- What the run leaves in the partial sum: one reduction step more. -/
theorem runE_acc (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    View.canon (runE c i arg3 harg3 arg4 harg4 arg5 harg5 arg6 harg6 arg7 harg7 arg8 harg8 arg9 harg9 arg10 harg10 arg11 harg11 hc0 hc1 hc2 hc3 x0 x1 x2 x3 x4 xs).1.2 = accStep x0 x1 x2 xs := by
  unfold runE; dsimp only; sl_unfold_words
  rw [View.canon_cons_unit_zero (S := S1024x1280) hz]
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

/-- The run's stores cover the partial sum. -/
theorem runE_acc_cover (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    ∀ y, ∃ p ∈ (runE c i arg3 harg3 arg4 harg4 arg5 harg5 arg6 harg6 arg7 harg7 arg8 harg8 arg9 harg9 arg10 harg10 arg11 harg11 hc0 hc1 hc2 hc3 x0 x1 x2 x3 x4 xs).1.2, y ∈ p.1.set := by
  unfold runE; dsimp only
  exact fun y => ⟨_, List.mem_cons_self, whole_mem inb_S1024x1280_S1024x1280_0_0 y⟩

/-- The pieces the run stores its output block in. -/
theorem runE_out (c : Dev nD) (i : grid0.Coords) (arg3 : Memref sig .tc .vmem S1024x2048 .bf16) (harg3 : arg3.IsWhole) (arg4 : Memref sig .tc .vmem S2048x1280 .fp8e4m3) (harg4 : arg4.IsWhole) (arg5 : Memref sig .tc .vmem S16x1280 .bf16) (harg5 : arg5.IsWhole) (arg6 : Memref sig .tc .vmem S1024x640 .f32) (harg6 : arg6.IsWhole) (arg7 : Memref sig .tc .vmem S1024x640 .f32) (harg7 : arg7.IsWhole) (arg8 : Memref sig .tc .vmem S1024x1280 .bf16) (harg8 : arg8.IsWhole) (arg9 : Memref sig .tc .vmem S1024x1280 .bf16) (harg9 : arg9.IsWhole) (arg10 : Memref sig .tc .vmem S1024x1280 .bf16) (harg10 : arg10.IsWhole) (arg11 : Memref sig .tc .vmem S1024x1280 .f32) (harg11 : arg11.IsWhole) (hc0 : ¬cond0_0 i) (hc1 : ¬cond0_1 i) (hc2 : ¬cond0_2 i) (hc3 : cond0_3 i)
    (x0 : Vec F S1024x2048 .bf16) (x1 : Vec F S2048x1280 .fp8e4m3) (x2 : Vec F S16x1280 .bf16) (x3 x4 : Vec F S1024x640 .f32) (xs : Vec F S1024x1280 .f32) :
    (runE c i arg3 harg3 arg4 harg4 arg5 harg5 arg6 harg6 arg7 harg7 arg8 harg8 arg9 harg9 arg10 harg10 arg11 harg11 hc0 hc1 hc2 hc3 x0 x1 x2 x3 x4 xs).1.1 = castPieces (accStep x0 x1 x2 xs) := by
  unfold runE; dsimp only; sl_unfold_words
  simp only [readCov_whole, View.readAt_eq_ld, harg3.read_unread, harg4.read_unread, harg5.read_unread, harg6.read_unread, harg7.read_unread, harg11.read_unread, View.ld_unit_zero (S := S1024x1280) hz, View.ld_unit_zero (S := S1024x2048) hz]
  rfl

end Cert.Kernel.Body

end
-- ==== Proof.BitsData.lean ====
/-
  What the pipeline holds from point to point: the partial sum after each grid point, the block each output's buffer
  holds, and where an output's buffer is carried from one point to the next.
-/
module

public import proofs.«01_k».proof.Proof.BitsBlocks
public import Idealize.ShloMosaic.Lib.Pipeline.TableIdle

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The partial sum after the point `n`: it starts from zero at every eighth point. -/
def acc (c : Dev nD) : (n : ℕ) → n < cfg0.N → Vec F S1024x1280 .f32
  | 0, h => accStep (iblk m c 0 ⟨0, h⟩) (iblk m c 1 ⟨0, h⟩) (iblk m c 2 ⟨0, h⟩) k0_pay54
  | n + 1, h => accStep (iblk m c 0 ⟨n + 1, h⟩) (iblk m c 1 ⟨n + 1, h⟩) (iblk m c 2 ⟨n + 1, h⟩)
      (if (n + 1) % 8 = 0 then k0_pay54 else acc c n (Nat.lt_of_succ_lt h))

/-- The partial sum after the point `t`. -/
abbrev accAt (c : Dev nD) (t : Fin cfg0.N) : Vec F S1024x1280 .f32 := acc m c t.val t.isLt

theorem acc_reset (c : Dev nD) : ∀ (n : ℕ) (h : n < cfg0.N), n % 8 = 0 →
    acc m c n h = accStep (iblk m c 0 ⟨n, h⟩) (iblk m c 1 ⟨n, h⟩) (iblk m c 2 ⟨n, h⟩) k0_pay54
  | 0, _, _ => rfl
  | n + 1, h, h8 => by rw [acc, if_pos h8]

theorem acc_step (c : Dev nD) : ∀ (n : ℕ) (h : n < cfg0.N), n % 8 ≠ 0 →
    acc m c n h = accStep (iblk m c 0 ⟨n, h⟩) (iblk m c 1 ⟨n, h⟩) (iblk m c 2 ⟨n, h⟩) (acc m c (n - 1) (by omega))
  | 0, _, h8 => absurd rfl h8
  | n + 1, h, h8 => by rw [acc, if_neg h8]; rfl

/-! ## The point whose block each output's buffer holds -/

theorem N_eq : cfg0.N = 672 := N_0

/-- The query output: the last reduction step of the point's column block, or of the last query column block of the
    row block when the point is past it. -/
def ptQ (t : Fin cfg0.N) : Fin cfg0.N := ⟨min (8 * (t.val / 8) + 7) (112 * (t.val / 112) + 95), by have := t.isLt; have := N_eq; omega⟩
/-- The key output: the last reduction step of the row block's key column block. -/
def ptK (t : Fin cfg0.N) : Fin cfg0.N := ⟨112 * (t.val / 112) + 103, by have := t.isLt; have := N_eq; omega⟩
/-- The value output: the last point of the row block. -/
def ptV (t : Fin cfg0.N) : Fin cfg0.N := ⟨112 * (t.val / 112) + 111, by have := t.isLt; have := N_eq; omega⟩

def PhiS (c : Dev nD) : (n : ℕ) → n ≤ cfg0.N → sProp 𝕄
  | 0, _ => Pipeline.ΦA spec0 c
  | n + 1, h => iprop(owns (c : Thread nD τ) scM0_0 fullShare (acc m c n h) ∗ (∃ r, prngReg c r))

/-- The proof data of the pipeline: after a point each input's buffer holds its block, each output's the block of the
    point named above, and between points the scratch buffer holds the partial sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ropeBlock (accAt m c (ptQ t)) (iblk m c 3 (ptQ t)) (iblk m c 4 (ptQ t))
    | ⟨6, _⟩ => ropeBlock (accAt m c (ptK t)) (iblk m c 3 (ptK t)) (iblk m c 4 (ptK t))
    | ⟨7, _⟩ => castBlock (accAt m c (ptV t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ropeBlock (accAt m c (ptQ t)) (iblk m c 3 (ptQ t)) (iblk m c 4 (ptQ t)) := by dsimp only [dats]
theorem after0_6 (c : Dev nD) (t : Fin cfg0.N) : (dats m 0 c).after 6 t = ropeBlock (accAt m c (ptK t)) (iblk m c 3 (ptK t)) (iblk m c 4 (ptK t)) := by dsimp only [dats]
theorem after0_7 (c : Dev nD) (t : Fin cfg0.N) : (dats m 0 c).after 7 t = castBlock (accAt m c (ptV t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The invariant between points -/

/-- Before any point the scratch buffer holds something. -/
theorem PhiS_some (c : Dev nD) : ∀ (n : ℕ) (h : n ≤ cfg0.N),
    PhiS m c n h ⊢ (iprop(iprop((∃ d, owns (c : Thread nD τ) scM0_0 fullShare d)) ∗ (∃ r, prngReg c r)) : sProp 𝕄)
  | 0, _ => by rw [PhiS, PhiA0_eq]
  | n + 1, _ => by
    rw [PhiS]
    iintro ⟨HS, Hr⟩
    isplitl [HS]
    · iexists _; iexact HS
    iexact Hr

/-- Before a point past the first it holds the partial sum after the point before. -/
theorem PhiS_pos (c : Dev nD) : ∀ (n : ℕ) (h : n ≤ cfg0.N) (h0 : n ≠ 0),
    PhiS m c n h = (iprop(owns (c : Thread nD τ) scM0_0 fullShare (acc m c (n - 1) (by omega)) ∗ (∃ r, prngReg c r)) : sProp 𝕄)
  | 0, _, h0 => absurd rfl h0
  | n + 1, _, _ => rfl

/-! ## Where the outputs are idle, written back, and carried -/

theorem idle5_of (t : Fin cfg0.N) (h : ¬cond0_1 (grid0.coords t)) : cfg0.idle 5 (grid0.coords t) = true := by
  show (!(k0_cond2 (grid0.coords t) == 1#1)) = true
  simpa [cond0_1] using h
theorem live5_of (t : Fin cfg0.N) (h : cond0_1 (grid0.coords t)) : cfg0.idle 5 (grid0.coords t) = false := by
  show (!(k0_cond2 (grid0.coords t) == 1#1)) = false
  simpa [cond0_1] using h
theorem idle6_of (t : Fin cfg0.N) (h : ¬cond0_2 (grid0.coords t)) : cfg0.idle 6 (grid0.coords t) = true := by
  show (!(k0_cond3 (grid0.coords t) == 1#1)) = true
  simpa [cond0_2] using h
theorem live6_of (t : Fin cfg0.N) (h : cond0_2 (grid0.coords t)) : cfg0.idle 6 (grid0.coords t) = false := by
  show (!(k0_cond3 (grid0.coords t) == 1#1)) = false
  simpa [cond0_2] using h
theorem idle7_of (t : Fin cfg0.N) (h : ¬cond0_3 (grid0.coords t)) : cfg0.idle 7 (grid0.coords t) = true := by
  show (!(k0_cond4 (grid0.coords t) == 1#1)) = true
  simpa [cond0_3] using h
theorem live7_of (t : Fin cfg0.N) (h : cond0_3 (grid0.coords t)) : cfg0.idle 7 (grid0.coords t) = false := by
  show (!(k0_cond4 (grid0.coords t) == 1#1)) = false
  simpa [cond0_3] using h

/-- The query output is written back after the last reduction step of its first eleven column blocks, and at the end of
    the row block. -/
theorem flush0_5 : ∀ t : Fin cfg0.N, (cfg0.win 5).flush t = true ↔ (t.val % 8 = 7 ∧ t.val / 8 % 14 ≤ 10) ∨ t.val % 112 = 111 :=
  (by decide +kernel : ∀ t : Fin grid0.N, win0_5.flush t = true ↔ (t.val % 8 = 7 ∧ t.val / 8 % 14 ≤ 10) ∨ t.val % 112 = 111)

theorem fresh5 : ∀ n, n ≤ cfg0.N → cfg0.fresh 5 n = decide (n % 112 < 96) :=
  Pipeline.Cfg.fresh_tab cfg0 5 (fun n => decide (n % 112 < 96)) rfl
    (by decide +kernel : ∀ t : Fin grid0.N, decide ((t.val + 1) % 112 < 96) = (win0_5.flush t || (idle0 5 (grid0.coords t) && decide (t.val % 112 < 96))))
theorem fresh6 : ∀ n, n ≤ cfg0.N → cfg0.fresh 6 n = decide (n % 112 < 104) :=
  Pipeline.Cfg.fresh_tab cfg0 6 (fun n => decide (n % 112 < 104)) rfl
    (by decide +kernel : ∀ t : Fin grid0.N, decide ((t.val + 1) % 112 < 104) = (win0_6.flush t || (idle0 6 (grid0.coords t) && decide (t.val % 112 < 104))))

/-- Between its last column block and its write-back the query output's buffer holds that block. -/
theorem carry5 (c : Dev nD) (t : Fin cfg0.N) (h0 : t.val ≠ 0) (hf : cfg0.fresh 5 t.val = false) :
    (dats m 0 c).after 5 t = (dats m 0 c).after 5 ⟨t.val - 1, by omega⟩ := by
  rw [fresh5 _ (le_of_lt t.isLt)] at hf
  have hf : ¬ t.val % 112 < 96 := of_decide_eq_false hf
  rw [after0_5, after0_5, show ptQ ⟨t.val - 1, by omega⟩ = ptQ t from Fin.ext (by simp only [ptQ]; omega)]
theorem carry6 (c : Dev nD) (t : Fin cfg0.N) (h0 : t.val ≠ 0) (hf : cfg0.fresh 6 t.val = false) :
    (dats m 0 c).after 6 t = (dats m 0 c).after 6 ⟨t.val - 1, by omega⟩ := by
  rw [fresh6 _ (le_of_lt t.isLt)] at hf
  have hf : ¬ t.val % 112 < 104 := of_decide_eq_false hf
  rw [after0_6, after0_6, show ptK ⟨t.val - 1, by omega⟩ = ptK t from Fin.ext (by simp only [ptK]; omega)]

theorem before0_5 (c : Dev nD) (t : Fin cfg0.N) (h : 96 ≤ t.val % 112) (d) : (dats m 0 c).before 5 t d = (dats m 0 c).after 5 t := by
  have h0 : t.val ≠ 0 := by omega
  have hf : cfg0.fresh 5 t.val = false := by rw [fresh5 _ (le_of_lt t.isLt)]; exact decide_eq_false (by omega)
  rw [(dats m 0 c).before_out_traj 5 rfl (fun _ _ => rfl) (fun t h0 _ hf => carry5 m c t h0 hf) t.val t rfl d, hf, carry5 m c t h0 hf]
  rfl
theorem before0_6 (c : Dev nD) (t : Fin cfg0.N) (h : 104 ≤ t.val % 112) (d) : (dats m 0 c).before 6 t d = (dats m 0 c).after 6 t := by
  have h0 : t.val ≠ 0 := by omega
  have hf : cfg0.fresh 6 t.val = false := by rw [fresh6 _ (le_of_lt t.isLt)]; exact decide_eq_false (by omega)
  rw [(dats m 0 c).before_out_traj 6 rfl (fun _ _ => rfl) (fun t h0 _ hf => carry6 m c t h0 hf) t.val t rfl d, hf, carry6 m c t h0 hf]
  rfl

/-! ## What an output's buffer may be left as -/

/-- At a point that stores nothing into the query output its buffer may stay as found, -/
theorem keep5 (c : Dev nD) (t : Fin cfg0.N) (h : ¬cond0_1 (grid0.coords t)) (d) :
    (owns (c : Thread nD τ) (st0_5 t) fullShare ((dats m 0 c).before 5 t d) : sProp 𝕄) ⊢ (dats m 0 c).leavesExact 5 t := by
  cases hf : (cfg0.win 5).flush t with
  | false =>
    rw [(dats m 0 c).leavesExact_idle 5 t (idle5_of t h) hf]
    iintro H; iexists d; iexact H
  | true =>
    have h1 := (flush0_5 t).mp hf
    have h2 : ¬ (t.val / 8 % 14 + 73 ≤ 12 * (t.val % 8)) := fun h' => h ((hcond0_1 t).mpr h')
    rw [before0_5 m c t (by omega)]
    unfold Dat.leavesExact; rw [idle5_of t h, hf]
/-- and at one that stores it holds the block stored. -/
theorem put5 (c : Dev nD) (t : Fin cfg0.N) (h : cond0_1 (grid0.coords t)) :
    (owns (c : Thread nD τ) (st0_5 t) fullShare (ropeBlock (accAt m c t) (iblk m c 3 t) (iblk m c 4 t)) : sProp 𝕄) ⊢ (dats m 0 c).leavesExact 5 t := by
  have h1 := (hcond0_1 t).mp h
  unfold Dat.leavesExact; rw [live5_of t h, after0_5, show ptQ t = t from Fin.ext (by simp only [ptQ]; omega)]
theorem keep6 (c : Dev nD) (t : Fin cfg0.N) (h : ¬cond0_2 (grid0.coords t)) (d) :
    (owns (c : Thread nD τ) (st0_6 t) fullShare ((dats m 0 c).before 6 t d) : sProp 𝕄) ⊢ (dats m 0 c).leavesExact 6 t := by
  cases hf : (cfg0.win 6).flush t with
  | false =>
    rw [(dats m 0 c).leavesExact_idle 6 t (idle6_of t h) hf]
    iintro H; iexists d; iexact H
  | true =>
    have h1 := (flush0_6 t).mp hf
    rw [before0_6 m c t (by omega)]
    unfold Dat.leavesExact; rw [idle6_of t h, hf]
theorem put6 (c : Dev nD) (t : Fin cfg0.N) (h : cond0_2 (grid0.coords t)) :
    (owns (c : Thread nD τ) (st0_6 t) fullShare (ropeBlock (accAt m c t) (iblk m c 3 t) (iblk m c 4 t)) : sProp 𝕄) ⊢ (dats m 0 c).leavesExact 6 t := by
  have h1 := (hcond0_2 t).mp h
  unfold Dat.leavesExact; rw [live6_of t h, after0_6, show ptK t = t from Fin.ext (by simp only [ptK]; omega)]
theorem keep7 (c : Dev nD) (t : Fin cfg0.N) (h : ¬cond0_3 (grid0.coords t)) (d) :
    (owns (c : Thread nD τ) (st0_7 t) fullShare ((dats m 0 c).before 7 t d) : sProp 𝕄) ⊢ (dats m 0 c).leavesExact 7 t := by
  have hf : (cfg0.win 7).flush t = false := Bool.eq_false_iff.mpr fun hf => h ((hcond0_3 t).mpr ((flush0_7 t).mp hf))
  rw [(dats m 0 c).leavesExact_idle 7 t (idle7_of t h) hf]
  iintro H; iexists d; iexact H
theorem put7 (c : Dev nD) (t : Fin cfg0.N) (h : cond0_3 (grid0.coords t)) :
    (owns (c : Thread nD τ) (st0_7 t) fullShare (castBlock (accAt m c t)) : sProp 𝕄) ⊢ (dats m 0 c).leavesExact 7 t := by
  have h1 := (hcond0_3 t).mp h
  unfold Dat.leavesExact; rw [live7_of t h, after0_7, show ptV t = t from Fin.ext (by simp only [ptV]; omega)]

end Cert.Kernel.Body

end
-- ==== Proof.BitsBody.lean ====
/-
  The body at every grid point, case by case, against the proof data of Data.lean.
-/
module

public import Idealize.ShloMosaic.Lib.Claim
public import proofs.«01_k».proof.Proof.BitsValsA
public import proofs.«01_k».proof.Proof.BitsValsB
public import proofs.«01_k».proof.Proof.BitsValsC
public import proofs.«01_k».proof.Proof.BitsValsD
public import proofs.«01_k».proof.Proof.BitsValsE
public import proofs.«01_k».proof.Proof.BitsData

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at the point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val (le_of_lt t.isLt) := by
  dsimp only [dats, Fin.val_castSucc]
theorem Phi_succ (c : Dev nD) (t : Fin cfg0.N) :
    (dats m 0 c).Φ t.succ = (iprop(owns (c : Thread nD τ) scM0_0 fullShare (accAt m c t) ∗ (∃ r, prngReg c r)) : sProp 𝕄) := by
  dsimp only [dats, Fin.val_succ, PhiS]

/-- At the first reduction step of a column block. -/
theorem bodyA (c : Dev nD) (t : Fin cfg0.N) (hc0 : cond0_0 (grid0.coords t)) (hc1 : ¬cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 = 0 := (hcond0_0 t).mp hc0
  rw [Phi_castSucc, Phi_succ, after0_0, after0_1, after0_2, after0_3, after0_4,
    show (dats m 0 c).owesAt () t.succ = (dats m 0 c).owesAt () t.castSucc from rfl]
  rw [show accAt m c t = _ from acc_reset m c t.val t.isLt h8]
  iintro ⟨HΦ, Ho,  ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := (PhiS_some m c t.val _) $$ HΦ
  icases HΦ' with ⟨HS, Hr⟩

  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t)).2 ((dats m 0 c).before 5 t d5) ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, ⟨%fS, HS⟩⟩
  isplitl [HS Hr]
  · isplitl [HS]
    · unfold owns; iexists _; isplitr
      swap; · iexact HS
      ipureintro
      refine (View.read_writes_eq_canon _ _ _ (runA_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t))).trans ?_
      exact runA_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t)
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (keep7 m c t hc3 d7); iexact H7

/-- At a reduction step that stores no output. -/
theorem bodyB (c : Dev nD) (t : Fin cfg0.N) (hc0 : ¬cond0_0 (grid0.coords t)) (hc1 : ¬cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, ⟨%fS, HS⟩⟩
  isplitl [HS Hr]
  · isplitl [HS]
    · unfold owns; iexists _; isplitr
      swap; · iexact HS
      ipureintro
      refine (View.read_writes_eq_canon _ _ _ (runB_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runB_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (keep7 m c t hc3 d7); iexact H7

/-- At the last reduction step of a query column block. -/
theorem bodyC (c : Dev nD) (t : Fin cfg0.N) (hc0 : ¬cond0_0 (grid0.coords t)) (hc1 : cond0_1 (grid0.coords t)) (hc2 : ¬cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS]; · iexact HS
  iintro ⟨H0, H1, H2, H3, H4, ⟨%f5, H5⟩, H6, H7, ⟨%fS, HS⟩⟩
  isplitl [HS Hr]
  · isplitl [HS]
    · unfold owns; iexists _; isplitr
      swap; · iexact HS
      ipureintro
      refine (View.read_writes_eq_canon _ _ _ (runC_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runC_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (put5 m c t hc1); unfold owns; iexists _; isplitr
    swap; · iexact H5
    ipureintro
    rw [runC_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
    rw [show accAt m c t = _ from acc_step m c t.val t.isLt h8]
    exact View.read_writes_eq_canon _ _ _ (ropePieces_cover _ _ _)
  isplitl [H6]
  · iapply (keep6 m c t hc2 d6); iexact H6
  iapply (keep7 m c t hc3 d7); iexact H7

/-- At the last reduction step of the key column block. -/
theorem bodyD (c : Dev nD) (t : Fin cfg0.N) (hc0 : ¬cond0_0 (grid0.coords t)) (hc1 : ¬cond0_1 (grid0.coords t)) (hc2 : cond0_2 (grid0.coords t)) (hc3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, ⟨%f6, H6⟩, H7, ⟨%fS, HS⟩⟩
  isplitl [HS Hr]
  · isplitl [HS]
    · unfold owns; iexists _; isplitr
      swap; · iexact HS
      ipureintro
      refine (View.read_writes_eq_canon _ _ _ (runD_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runD_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (put6 m c t hc2); unfold owns; iexists _; isplitr
    swap; · iexact H6
    ipureintro
    rw [runD_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
    rw [show accAt m c t = _ from acc_step m c t.val t.isLt h8]
    exact View.read_writes_eq_canon _ _ _ (ropePieces_cover _ _ _)
  iapply (keep7 m c t hc3 d7); iexact H7

/-- At the last reduction step of the value column block. -/
theorem bodyE (c : Dev nD) (t : Fin cfg0.N) (hc0 : ¬cond0_0 (grid0.coords t)) (hc1 : ¬cond0_1 (grid0.coords t)) (hc2 : ¬cond0_2 (grid0.coords t)) (hc3 : cond0_3 (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  have h8 : t.val % 8 ≠ 0 := fun h => hc0 ((hcond0_0 t).mpr h)
  rw [Phi_castSucc, PhiS_pos m c t.val _ (fun h => h8 (by rw [h])), Phi_succ, after0_0, after0_1, after0_2, after0_3, after0_4,
    show (dats m 0 c).owesAt () t.succ = (dats m 0 c).owesAt () t.castSucc from rfl]
  iintro ⟨⟨HS, Hr⟩, Ho,  ⟨%d0, H0⟩, ⟨%d1, H1⟩, ⟨%d2, H2⟩, ⟨%d3, H3⟩, ⟨%d4, H4⟩, ⟨%d5, H5⟩, ⟨%d6, H6⟩, ⟨%d7, H7⟩⟩

  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).2 ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%f7, H7⟩, ⟨%fS, HS⟩⟩
  isplitl [HS Hr]
  · isplitl [HS]
    · unfold owns; iexists _; isplitr
      swap; · iexact HS
      ipureintro
      refine (View.read_writes_eq_canon _ _ _ (runE_acc_cover (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega)))).trans ?_
      exact (runE_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))).trans (acc_step m c t.val t.isLt h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (keep5 m c t hc1 d5); iexact H5
  isplitl [H6]
  · iapply (keep6 m c t hc2 d6); iexact H6
  iapply (put7 m c t hc3); unfold owns; iexists _; isplitr
  swap; · iexact H7
  ipureintro
  rw [runE_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 hc2 hc3 (iblk m c 0 t) (iblk m c 1 t) (iblk m c 2 t) (iblk m c 3 t) (iblk m c 4 t) (acc m c (t.val - 1) (by have := t.isLt; omega))]
  rw [show accAt m c t = _ from acc_step m c t.val t.isLt h8]
  exact View.read_writes_eq_canon _ _ _ (castPieces_cover _)

theorem sound_body (c : Dev nD) (t : Fin cfg0.N) :
    bodyPre m c t ⊢ wp frame (wpE (defs₀ (F := F)) Variants.none c none) Set.univ (bodyAt0 t) (fun _ => bodyPost m c t) := by
  have k0 := hcond0_0 t
  have k1 := hcond0_1 t
  have k2 := hcond0_2 t
  have k3 := hcond0_3 t
  by_cases h0 : cond0_0 (grid0.coords t)
  · have e0 := k0.mp h0
    exact bodyA m c t h0 (fun h => by have := k1.mp h; omega) (fun h => by have := k2.mp h; omega) (fun h => by have := k3.mp h; omega)
  by_cases h1 : cond0_1 (grid0.coords t)
  · have e1 := k1.mp h1
    exact bodyC m c t h0 h1 (fun h => by have := k2.mp h; omega) (fun h => by have := k3.mp h; omega)
  by_cases h2 : cond0_2 (grid0.coords t)
  · have e2 := k2.mp h2
    exact bodyD m c t h0 h1 h2 (fun h => by have := k3.mp h; omega)
  by_cases h3 : cond0_3 (grid0.coords t)
  · exact bodyE m c t h0 h1 h2 h3
  exact bodyB m c t h0 h1 h2 h3

/-- The body table's row at the point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [show (dats (F := F) m 0 c).Φ 0 = Pipeline.ΦA spec0 c from rfl]

theorem hout (c : Dev nD) : (dats (F := F) m 0 c).Φ (Fin.last cfg0.N) ⊢ Pipeline.ΦA spec0 c := by
  rw [PhiA0_eq]; exact (PhiS_some m c _ le_rfl : PhiS m c cfg0.N le_rfl ⊢ _)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program: every array of the pipeline ends at what the proof data give, every other buffer as
    the region found it. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Cert.Kernel.Body

end
-- ==== Proof.lean ====
module

public import proofs.«01_k».proof.Proof.Gen.Quant.Frame
public import proofs.«01_k».proof.Proof.Gen.QuantIdeal.Value
public import proofs.«01_k».proof.Proof.Gen.QuantReferenceIdeal.Value
public import proofs.«01_k».proof.Proof.Gen.Pre_finite_weight
public import proofs.«01_k».proof.Proof.Gen.ReferenceIdeal.Value
public import proofs.«01_k».proof.Defs
public import proofs.«01_k».proof.Proof.Claims
public import proofs.«01_k».proof.Proof.QuantClaims
public import proofs.«01_k».proof.Proof.BitsBody
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Everything claimed of both calls: the frames, that each ideal program is the kernel's own text, that the projection
    kernel and its reference compute the same queries, keys and values over the extended reals, and that the quantising
    kernel and its reference compute the same codes, scales and rows there when the weights are finite. -/
theorem claim : Cert.Claim := ⟨Cert.Kernel.Gen.facts, Cert.KernelIdeal.Gen.facts, Cert.ReferenceIdeal.Gen.facts,
  Cert.Quant.Gen.facts, Cert.QuantIdeal.Gen.facts, Cert.QuantReferenceIdeal.Gen.facts, Cert.Pre_finite_weight.Gen.facts,
  fun m ρ _ => Cert.Kernel.Body.frame m ρ, fun m ρ _ => Cert.KernelIdeal.Body.frame m ρ, fun m ρ _ => Cert.ReferenceIdeal.Gen.frame m ρ,
  fun m ρ _ => Cert.Quant.Gen.frame m ρ, fun m ρ _ => Cert.QuantIdeal.Gen.frame m ρ, fun m ρ _ => Cert.QuantIdeal.Gen.frame m ρ,
  fun m ρ _ => Cert.QuantReferenceIdeal.Gen.frame m ρ, fun m ρ _ => Cert.QuantReferenceIdeal.Gen.frame m ρ,
  trivial, algebraic, trivial, quant_algebraic⟩

end Cert.Proof

end
